-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x768 : Shape := ⟨3, ![2, 1024, 768]⟩
abbrev S3072x768 : Shape := ⟨2, ![3072, 768]⟩
abbrev S1536x4 : Shape := ⟨2, ![1536, 4]⟩
abbrev S1536 : Shape := ⟨1, ![1536]⟩
abbrev S80x1536 : Shape := ⟨2, ![80, 1536]⟩
abbrev S1536x48 : Shape := ⟨2, ![1536, 48]⟩
abbrev S1536x16 : Shape := ⟨2, ![1536, 16]⟩
abbrev S768x1536 : Shape := ⟨2, ![768, 1536]⟩
abbrev S4x1024x768 : Shape := ⟨3, ![4, 1024, 768]⟩
abbrev S768x3072 : Shape := ⟨2, ![768, 3072]⟩
abbrev S1x768x3072 : Shape := ⟨3, ![1, 768, 3072]⟩
abbrev S2x768x3072 : Shape := ⟨3, ![2, 768, 3072]⟩
abbrev S4x1536 : Shape := ⟨2, ![4, 1536]⟩
abbrev S1x4x1536 : Shape := ⟨3, ![1, 4, 1536]⟩
abbrev S2x4x1536 : Shape := ⟨3, ![2, 4, 1536]⟩
abbrev S1x1536 : Shape := ⟨2, ![1, 1536]⟩
abbrev S2x1536 : Shape := ⟨2, ![2, 1536]⟩
abbrev S2x1x1536 : Shape := ⟨3, ![2, 1, 1536]⟩
abbrev S1536x80 : Shape := ⟨2, ![1536, 80]⟩
abbrev S1x1536x80 : Shape := ⟨3, ![1, 1536, 80]⟩
abbrev S2x1536x80 : Shape := ⟨3, ![2, 1536, 80]⟩
abbrev S48x1536 : Shape := ⟨2, ![48, 1536]⟩
abbrev S1x48x1536 : Shape := ⟨3, ![1, 48, 1536]⟩
abbrev S2x48x1536 : Shape := ⟨3, ![2, 48, 1536]⟩
abbrev S16x1536 : Shape := ⟨2, ![16, 1536]⟩
abbrev S1x16x1536 : Shape := ⟨3, ![1, 16, 1536]⟩
abbrev S2x16x1536 : Shape := ⟨3, ![2, 16, 1536]⟩
abbrev S1536x768 : Shape := ⟨2, ![1536, 768]⟩
abbrev S1x1536x768 : Shape := ⟨3, ![1, 1536, 768]⟩
abbrev S2x1536x768 : Shape := ⟨3, ![2, 1536, 768]⟩
abbrev S1x128x768 : Shape := ⟨3, ![1, 128, 768]⟩
abbrev S1x1x1536 : Shape := ⟨3, ![1, 1, 1536]⟩
abbrev S136x1536 : Shape := ⟨2, ![136, 1536]⟩
abbrev S128x16x1536 : Shape := ⟨3, ![128, 16, 1536]⟩
abbrev S8x1536 : Shape := ⟨2, ![8, 1536]⟩
abbrev S128x768 : Shape := ⟨2, ![128, 768]⟩
abbrev S128x3072 : Shape := ⟨2, ![128, 3072]⟩
abbrev S128x1536 : Shape := ⟨2, ![128, 1536]⟩
abbrev S3x1536 : Shape := ⟨2, ![3, 1536]⟩
abbrev S128x80 : Shape := ⟨2, ![128, 80]⟩
abbrev S128x48 : Shape := ⟨2, ![128, 48]⟩
abbrev S128x16 : Shape := ⟨2, ![128, 16]⟩
abbrev S128x1x1536 : Shape := ⟨3, ![128, 1, 1536]⟩
abbrev S128x16x1 : Shape := ⟨3, ![128, 16, 1]⟩
abbrev S2x2x1024x768 : Shape := ⟨4, ![2, 2, 1024, 768]⟩
abbrev S1x2x1024x768 : Shape := ⟨4, ![1, 2, 1024, 768]⟩

abbrev nBuf : Space → Nat
  | .hbm => 75
  | .vmem => 26
  | .smem => 0
  | _ => 0

abbrev bufTy : (tb : Table) → Fin (tcTables nBuf tb) → BufTy
  | .hbm, ⟨0, _⟩ => ⟨S2x1024x768, .f32⟩
  | .hbm, ⟨1, _⟩ => ⟨S3072x768, .f32⟩
  | .hbm, ⟨2, _⟩ => ⟨S1536x4, .f32⟩
  | .hbm, ⟨3, _⟩ => ⟨S1536, .f32⟩
  | .hbm, ⟨4, _⟩ => ⟨S80x1536, .f32⟩
  | .hbm, ⟨5, _⟩ => ⟨S1536x48, .f32⟩
  | .hbm, ⟨6, _⟩ => ⟨S1536, .f32⟩
  | .hbm, ⟨7, _⟩ => ⟨S1536x16, .f32⟩
  | .hbm, ⟨8, _⟩ => ⟨S1536, .f32⟩
  | .hbm, ⟨9, _⟩ => ⟨S768x1536, .f32⟩
  | .hbm, ⟨10, _⟩ => ⟨S3072x768, .f32⟩
  | .hbm, ⟨11, _⟩ => ⟨S1536x4, .f32⟩
  | .hbm, ⟨12, _⟩ => ⟨S1536, .f32⟩
  | .hbm, ⟨13, _⟩ => ⟨S80x1536, .f32⟩
  | .hbm, ⟨14, _⟩ => ⟨S1536x48, .f32⟩
  | .hbm, ⟨15, _⟩ => ⟨S1536, .f32⟩
  | .hbm, ⟨16, _⟩ => ⟨S1536x16, .f32⟩
  | .hbm, ⟨17, _⟩ => ⟨S1536, .f32⟩
  | .hbm, ⟨18, _⟩ => ⟨S768x1536, .f32⟩
  | .hbm, ⟨19, _⟩ => ⟨S2x1024x768, .f32⟩
  | .hbm, ⟨20, _⟩ => ⟨S4x1024x768, .f32⟩
  | .hbm, ⟨21, _⟩ => ⟨S768x3072, .f32⟩
  | .hbm, ⟨22, _⟩ => ⟨S768x3072, .f32⟩
  | .hbm, ⟨23, _⟩ => ⟨S1x768x3072, .f32⟩
  | .hbm, ⟨24, _⟩ => ⟨S1x768x3072, .f32⟩
  | .hbm, ⟨25, _⟩ => ⟨S2x768x3072, .f32⟩
  | .hbm, ⟨26, _⟩ => ⟨S2x768x3072, .bf16⟩
  | .hbm, ⟨27, _⟩ => ⟨S4x1536, .f32⟩
  | .hbm, ⟨28, _⟩ => ⟨S4x1536, .f32⟩
  | .hbm, ⟨29, _⟩ => ⟨S1x4x1536, .f32⟩
  | .hbm, ⟨30, _⟩ => ⟨S1x4x1536, .f32⟩
  | .hbm, ⟨31, _⟩ => ⟨S2x4x1536, .f32⟩
  | .hbm, ⟨32, _⟩ => ⟨S1x1536, .f32⟩
  | .hbm, ⟨33, _⟩ => ⟨S1x1536, .f32⟩
  | .hbm, ⟨34, _⟩ => ⟨S2x1536, .f32⟩
  | .hbm, ⟨35, _⟩ => ⟨S2x1x1536, .f32⟩
  | .hbm, ⟨36, _⟩ => ⟨S1536x80, .f32⟩
  | .hbm, ⟨37, _⟩ => ⟨S1536x80, .f32⟩
  | .hbm, ⟨38, _⟩ => ⟨S1x1536x80, .f32⟩
  | .hbm, ⟨39, _⟩ => ⟨S1x1536x80, .f32⟩
  | .hbm, ⟨40, _⟩ => ⟨S2x1536x80, .f32⟩
  | .hbm, ⟨41, _⟩ => ⟨S2x1536x80, .bf16⟩
  | .hbm, ⟨42, _⟩ => ⟨S48x1536, .f32⟩
  | .hbm, ⟨43, _⟩ => ⟨S48x1536, .f32⟩
  | .hbm, ⟨44, _⟩ => ⟨S1x48x1536, .f32⟩
  | .hbm, ⟨45, _⟩ => ⟨S1x48x1536, .f32⟩
  | .hbm, ⟨46, _⟩ => ⟨S2x48x1536, .f32⟩
  | .hbm, ⟨47, _⟩ => ⟨S2x48x1536, .bf16⟩
  | .hbm, ⟨48, _⟩ => ⟨S1x1536, .f32⟩
  | .hbm, ⟨49, _⟩ => ⟨S1x1536, .f32⟩
  | .hbm, ⟨50, _⟩ => ⟨S2x1536, .f32⟩
  | .hbm, ⟨51, _⟩ => ⟨S2x1x1536, .f32⟩
  | .hbm, ⟨52, _⟩ => ⟨S16x1536, .f32⟩
  | .hbm, ⟨53, _⟩ => ⟨S16x1536, .f32⟩
  | .hbm, ⟨54, _⟩ => ⟨S1x16x1536, .f32⟩
  | .hbm, ⟨55, _⟩ => ⟨S1x16x1536, .f32⟩
  | .hbm, ⟨56, _⟩ => ⟨S2x16x1536, .f32⟩
  | .hbm, ⟨57, _⟩ => ⟨S1x1536, .f32⟩
  | .hbm, ⟨58, _⟩ => ⟨S1x1536, .f32⟩
  | .hbm, ⟨59, _⟩ => ⟨S2x1536, .f32⟩
  | .hbm, ⟨60, _⟩ => ⟨S2x1x1536, .f32⟩
  | .hbm, ⟨61, _⟩ => ⟨S1536x768, .f32⟩
  | .hbm, ⟨62, _⟩ => ⟨S1536x768, .f32⟩
  | .hbm, ⟨63, _⟩ => ⟨S1x1536x768, .f32⟩
  | .hbm, ⟨64, _⟩ => ⟨S1x1536x768, .f32⟩
  | .hbm, ⟨65, _⟩ => ⟨S2x1536x768, .f32⟩
  | .hbm, ⟨66, _⟩ => ⟨S2x1536x768, .bf16⟩
  | .hbm, ⟨67, _⟩ => ⟨S4x1024x768, .f32⟩
  | .hbm, ⟨68, _⟩ => ⟨S2x2x1024x768, .f32⟩
  | .hbm, ⟨69, _⟩ => ⟨S1x2x1024x768, .f32⟩
  | .hbm, ⟨70, _⟩ => ⟨S2x1024x768, .f32⟩
  | .hbm, ⟨71, _⟩ => ⟨S1x2x1024x768, .f32⟩
  | .hbm, ⟨72, _⟩ => ⟨S2x1024x768, .f32⟩
  | .hbm, ⟨73, _⟩ => ⟨S2x1024x768, .f32⟩
  | .hbm, ⟨74, _⟩ => ⟨S2x1024x768, .f32⟩
  | .local _ .vmem, ⟨0, _⟩ => ⟨S1x128x768, .f32⟩
  | .local _ .vmem, ⟨1, _⟩ => ⟨S1x128x768, .f32⟩
  | .local _ .vmem, ⟨2, _⟩ => ⟨S1x768x3072, .bf16⟩
  | .local _ .vmem, ⟨3, _⟩ => ⟨S1x768x3072, .bf16⟩
  | .local _ .vmem, ⟨4, _⟩ => ⟨S1x4x1536, .f32⟩
  | .local _ .vmem, ⟨5, _⟩ => ⟨S1x4x1536, .f32⟩
  | .local _ .vmem, ⟨6, _⟩ => ⟨S1x1x1536, .f32⟩
  | .local _ .vmem, ⟨7, _⟩ => ⟨S1x1x1536, .f32⟩
  | .local _ .vmem, ⟨8, _⟩ => ⟨S1x1536x80, .bf16⟩
  | .local _ .vmem, ⟨9, _⟩ => ⟨S1x1536x80, .bf16⟩
  | .local _ .vmem, ⟨10, _⟩ => ⟨S1x48x1536, .bf16⟩
  | .local _ .vmem, ⟨11, _⟩ => ⟨S1x48x1536, .bf16⟩
  | .local _ .vmem, ⟨12, _⟩ => ⟨S1x1x1536, .f32⟩
  | .local _ .vmem, ⟨13, _⟩ => ⟨S1x1x1536, .f32⟩
  | .local _ .vmem, ⟨14, _⟩ => ⟨S1x16x1536, .f32⟩
  | .local _ .vmem, ⟨15, _⟩ => ⟨S1x16x1536, .f32⟩
  | .local _ .vmem, ⟨16, _⟩ => ⟨S1x1x1536, .f32⟩
  | .local _ .vmem, ⟨17, _⟩ => ⟨S1x1x1536, .f32⟩
  | .local _ .vmem, ⟨18, _⟩ => ⟨S1x1536x768, .bf16⟩
  | .local _ .vmem, ⟨19, _⟩ => ⟨S1x1536x768, .bf16⟩
  | .local _ .vmem, ⟨20, _⟩ => ⟨S1x128x768, .f32⟩
  | .local _ .vmem, ⟨21, _⟩ => ⟨S1x128x768, .f32⟩
  | .local _ .vmem, ⟨22, _⟩ => ⟨S136x1536, .f32⟩
  | .local _ .vmem, ⟨23, _⟩ => ⟨S128x16x1536, .f32⟩
  | .local _ .vmem, ⟨24, _⟩ => ⟨S128x16x1536, .f32⟩
  | .local _ .vmem, ⟨25, _⟩ => ⟨S16x1536, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_52 : BitVec 32 := 0#32
  let c128_i32 : BitVec 32 := 128#32
  let v94 : BitVec 32 := Scalar.addi c0_i32_52 c128_i32
  let c1_i32 : BitVec 32 := 1#32
  ⟨c0_i32_52, v94, c1_i32⟩
def k0_off1 (k0_t1 : Fin k0_t1_loop.trips) : Fin 3 → Nat :=
  let c0_i32_52 : BitVec 32 := 0#32
  let c1_i32 : BitVec 32 := 1#32
  let arg17 : BitVec 32 := Scf.iv c0_i32_52 c1_i32 k0_t1
  let v119 : Index := Scalar.indexCast arg17
  let c0_70 : Index := 0#32
  let c0_71 : Index := 0#32
  ![v119.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x80 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x48x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1536x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x1024x768 : Shape := ⟨3, ![2, 1024, 768]⟩
abbrev S3072x768 : Shape := ⟨2, ![3072, 768]⟩
abbrev S1536x4 : Shape := ⟨2, ![1536, 4]⟩
abbrev S1536 : Shape := ⟨1, ![1536]⟩
abbrev S80x1536 : Shape := ⟨2, ![80, 1536]⟩
abbrev S1536x48 : Shape := ⟨2, ![1536, 48]⟩
abbrev S1536x16 : Shape := ⟨2, ![1536, 16]⟩
abbrev S768x1536 : Shape := ⟨2, ![768, 1536]⟩
abbrev S2x1024x3072 : Shape := ⟨3, ![2, 1024, 3072]⟩
abbrev S2x1024x1536 : Shape := ⟨3, ![2, 1024, 1536]⟩
abbrev S_ : Shape := ⟨0, ![]⟩
abbrev S2x1027x1536 : Shape := ⟨3, ![2, 1027, 1536]⟩
abbrev S1536x1 : Shape := ⟨2, ![1536, 1]⟩
abbrev S1x1x1536 : Shape := ⟨3, ![1, 1, 1536]⟩
abbrev S2x1024x80 : Shape := ⟨3, ![2, 1024, 80]⟩
abbrev S2x1024x48 : Shape := ⟨3, ![2, 1024, 48]⟩
abbrev S2x1024x16 : Shape := ⟨3, ![2, 1024, 16]⟩
abbrev S2x1024x1536x1 : Shape := ⟨4, ![2, 1024, 1536, 1]⟩
abbrev S1x1x1536x16 : Shape := ⟨4, ![1, 1, 1536, 16]⟩
abbrev S2x1024x1536x16 : Shape := ⟨4, ![2, 1024, 1536, 16]⟩
abbrev S2x1024x1x16 : Shape := ⟨4, ![2, 1024, 1, 16]⟩
abbrev S1024x2x1536x16 : Shape := ⟨4, ![1024, 2, 1536, 16]⟩
abbrev S1024x2x16 : Shape := ⟨3, ![1024, 2, 16]⟩
abbrev S1024x2x1536 : Shape := ⟨3, ![1024, 2, 1536]⟩
abbrev S2x1536x16 : Shape := ⟨3, ![2, 1536, 16]⟩
abbrev S1x2x1536x16 : Shape := ⟨4, ![1, 2, 1536, 16]⟩
abbrev S1x2x16 : Shape := ⟨3, ![1, 2, 16]⟩
abbrev S2x16 : Shape := ⟨2, ![2, 16]⟩
abbrev S1x2x1536 : Shape := ⟨3, ![1, 2, 1536]⟩
abbrev S2x1536 : Shape := ⟨2, ![2, 1536]⟩
abbrev S1x1536 : Shape := ⟨2, ![1, 1536]⟩

abbrev nBuf : Space → Nat
  | .hbm => 322
  | .vmem => 0
  | .smem => 0
  | _ => 0

abbrev hbmTy0_0 (i : Nat) : BufTy := match i % 128 with
  | 0 => ⟨S2x1024x768, .f32⟩
  | 1 => ⟨S3072x768, .f32⟩
  | 2 => ⟨S1536x4, .f32⟩
  | 3 => ⟨S1536, .f32⟩
  | 4 => ⟨S80x1536, .f32⟩
  | 5 => ⟨S1536x48, .f32⟩
  | 6 => ⟨S1536, .f32⟩
  | 7 => ⟨S1536x16, .f32⟩
  | 8 => ⟨S1536, .f32⟩
  | 9 => ⟨S768x1536, .f32⟩
  | 10 => ⟨S3072x768, .f32⟩
  | 11 => ⟨S1536x4, .f32⟩
  | 12 => ⟨S1536, .f32⟩
  | 13 => ⟨S80x1536, .f32⟩
  | 14 => ⟨S1536x48, .f32⟩
  | 15 => ⟨S1536, .f32⟩
  | 16 => ⟨S1536x16, .f32⟩
  | 17 => ⟨S1536, .f32⟩
  | 18 => ⟨S768x1536, .f32⟩
  | 19 => ⟨S2x1024x3072, .f32⟩
  | 20 => ⟨S2x1024x1536, .f32⟩
  | 21 => ⟨S2x1024x1536, .f32⟩
  | 22 => ⟨S_, .i32⟩
  | 23 => ⟨S_, .f32⟩
  | 24 => ⟨S2x1027x1536, .f32⟩
  | 25 => ⟨S2x1024x1536, .f32⟩
  | 26 => ⟨S1536x1, .f32⟩
  | 27 => ⟨S1536, .f32⟩
  | 28 => ⟨S1x1x1536, .f32⟩
  | 29 => ⟨S2x1024x1536, .f32⟩
  | 30 => ⟨S2x1024x1536, .f32⟩
  | 31 => ⟨S_, .f32⟩
  | 32 => ⟨S2x1024x1536, .f32⟩
  | 33 => ⟨S2x1024x1536, .f32⟩
  | 34 => ⟨S2x1024x1536, .f32⟩
  | 35 => ⟨S1536x1, .f32⟩
  | 36 => ⟨S1536, .f32⟩
  | 37 => ⟨S1x1x1536, .f32⟩
  | 38 => ⟨S2x1024x1536, .f32⟩
  | 39 => ⟨S2x1024x1536, .f32⟩
  | 40 => ⟨S2x1024x1536, .f32⟩
  | 41 => ⟨S2x1024x1536, .f32⟩
  | 42 => ⟨S1536x1, .f32⟩
  | 43 => ⟨S1536, .f32⟩
  | 44 => ⟨S1x1x1536, .f32⟩
  | 45 => ⟨S2x1024x1536, .f32⟩
  | 46 => ⟨S2x1024x1536, .f32⟩
  | 47 => ⟨S2x1024x1536, .f32⟩
  | 48 => ⟨S2x1024x1536, .f32⟩
  | 49 => ⟨S1536x1, .f32⟩
  | 50 => ⟨S1536, .f32⟩
  | 51 => ⟨S1x1x1536, .f32⟩
  | 52 => ⟨S2x1024x1536, .f32⟩
  | 53 => ⟨S2x1024x1536, .f32⟩
  | 54 => ⟨S2x1024x1536, .f32⟩
  | 55 => ⟨S1x1x1536, .f32⟩
  | 56 => ⟨S2x1024x1536, .f32⟩
  | 57 => ⟨S2x1024x1536, .f32⟩
  | 58 => ⟨S2x1024x1536, .f32⟩
  | 59 => ⟨S2x1024x1536, .f32⟩
  | 60 => ⟨S_, .f32⟩
  | 61 => ⟨S2x1024x1536, .f32⟩
  | 62 => ⟨S2x1024x1536, .f32⟩
  | 63 => ⟨S_, .f32⟩
  | 64 => ⟨S2x1024x1536, .f32⟩
  | 65 => ⟨S2x1024x1536, .f32⟩
  | 66 => ⟨S2x1024x1536, .f32⟩
  | 67 => ⟨S2x1024x80, .f32⟩
  | 68 => ⟨S2x1024x48, .f32⟩
  | 69 => ⟨S2x1024x16, .f32⟩
  | 70 => ⟨S2x1024x16, .f32⟩
  | 71 => ⟨S2x1024x1536, .f32⟩
  | 72 => ⟨S1x1x1536, .f32⟩
  | 73 => ⟨S2x1024x1536, .f32⟩
  | 74 => ⟨S2x1024x1536, .f32⟩
  | 75 => ⟨S_, .f32⟩
  | 76 => ⟨S2x1024x1536, .f32⟩
  | 77 => ⟨S2x1024x1536, .f32⟩
  | 78 => ⟨S2x1024x1536, .f32⟩
  | 79 => ⟨S2x1024x1536, .f32⟩
  | 80 => ⟨S2x1024x1536, .i1⟩
  | 81 => ⟨S2x1024x1536, .f32⟩
  | 82 => ⟨S2x1024x1536, .f32⟩
  | 83 => ⟨S2x1024x1536, .f32⟩
  | 84 => ⟨S2x1024x1536, .f32⟩
  | 85 => ⟨S2x1024x1536, .f32⟩
  | 86 => ⟨S2x1024x1536, .f32⟩
  | 87 => ⟨S2x1024x1536, .f32⟩
  | 88 => ⟨S2x1024x1536, .f32⟩
  | 89 => ⟨S1536x16, .f32⟩
  | 90 => ⟨S1536x16, .f32⟩
  | 91 => ⟨S2x1024x1536x1, .f32⟩
  | 92 => ⟨S1x1x1536x16, .f32⟩
  | 93 => ⟨S2x1024x1536x16, .f32⟩
  | 94 => ⟨S2x1024x1536x16, .f32⟩
  | 95 => ⟨S2x1024x1536x16, .f32⟩
  | 96 => ⟨S2x1024x1536x16, .f32⟩
  | 97 => ⟨S2x1024x1536x1, .f32⟩
  | 98 => ⟨S2x1024x1x16, .f32⟩
  | 99 => ⟨S2x1024x1536x16, .f32⟩
  | 100 => ⟨S2x1024x1536x16, .f32⟩
  | 101 => ⟨S2x1024x1536x16, .f32⟩
  | 102 => ⟨S2x1024x1536x1, .f32⟩
  | 103 => ⟨S2x1024x1536x16, .f32⟩
  | 104 => ⟨S2x1024x1536x16, .f32⟩
  | 105 => ⟨S1024x2x1536x16, .f32⟩
  | 106 => ⟨S1024x2x1536x16, .f32⟩
  | 107 => ⟨S1024x2x16, .f32⟩
  | 108 => ⟨S1024x2x1536, .f32⟩
  | 109 => ⟨S1024x2x1536, .f32⟩
  | 110 => ⟨S2x1024x768, .f32⟩
  | 111 => ⟨S2x1024x3072, .f32⟩
  | 112 => ⟨S2x1024x1536, .f32⟩
  | 113 => ⟨S2x1024x1536, .f32⟩
  | 114 => ⟨S_, .i32⟩
  | 115 => ⟨S_, .f32⟩
  | 116 => ⟨S2x1027x1536, .f32⟩
  | 117 => ⟨S2x1024x1536, .f32⟩
  | 118 => ⟨S1536x1, .f32⟩
  | 119 => ⟨S1536, .f32⟩
  | 120 => ⟨S1x1x1536, .f32⟩
  | 121 => ⟨S2x1024x1536, .f32⟩
  | 122 => ⟨S2x1024x1536, .f32⟩
  | 123 => ⟨S_, .f32⟩
  | 124 => ⟨S2x1024x1536, .f32⟩
  | 125 => ⟨S2x1024x1536, .f32⟩
  | 126 => ⟨S2x1024x1536, .f32⟩
  | 127 => ⟨S1536x1, .f32⟩
  | _ => ⟨S2x1024x768, .f32⟩

abbrev hbmTy0_1 (i : Nat) : BufTy := match i % 128 with
  | 0 => ⟨S1536, .f32⟩
  | 1 => ⟨S1x1x1536, .f32⟩
  | 2 => ⟨S2x1024x1536, .f32⟩
  | 3 => ⟨S2x1024x1536, .f32⟩
  | 4 => ⟨S2x1024x1536, .f32⟩
  | 5 => ⟨S2x1024x1536, .f32⟩
  | 6 => ⟨S1536x1, .f32⟩
  | 7 => ⟨S1536, .f32⟩
  | 8 => ⟨S1x1x1536, .f32⟩
  | 9 => ⟨S2x1024x1536, .f32⟩
  | 10 => ⟨S2x1024x1536, .f32⟩
  | 11 => ⟨S2x1024x1536, .f32⟩
  | 12 => ⟨S2x1024x1536, .f32⟩
  | 13 => ⟨S1536x1, .f32⟩
  | 14 => ⟨S1536, .f32⟩
  | 15 => ⟨S1x1x1536, .f32⟩
  | 16 => ⟨S2x1024x1536, .f32⟩
  | 17 => ⟨S2x1024x1536, .f32⟩
  | 18 => ⟨S2x1024x1536, .f32⟩
  | 19 => ⟨S1x1x1536, .f32⟩
  | 20 => ⟨S2x1024x1536, .f32⟩
  | 21 => ⟨S2x1024x1536, .f32⟩
  | 22 => ⟨S2x1024x1536, .f32⟩
  | 23 => ⟨S2x1024x1536, .f32⟩
  | 24 => ⟨S_, .f32⟩
  | 25 => ⟨S2x1024x1536, .f32⟩
  | 26 => ⟨S2x1024x1536, .f32⟩
  | 27 => ⟨S_, .f32⟩
  | 28 => ⟨S2x1024x1536, .f32⟩
  | 29 => ⟨S2x1024x1536, .f32⟩
  | 30 => ⟨S2x1024x1536, .f32⟩
  | 31 => ⟨S2x1024x80, .f32⟩
  | 32 => ⟨S2x1024x48, .f32⟩
  | 33 => ⟨S2x1024x16, .f32⟩
  | 34 => ⟨S2x1024x16, .f32⟩
  | 35 => ⟨S2x1024x1536, .f32⟩
  | 36 => ⟨S1x1x1536, .f32⟩
  | 37 => ⟨S2x1024x1536, .f32⟩
  | 38 => ⟨S2x1024x1536, .f32⟩
  | 39 => ⟨S_, .f32⟩
  | 40 => ⟨S2x1024x1536, .f32⟩
  | 41 => ⟨S2x1024x1536, .f32⟩
  | 42 => ⟨S2x1024x1536, .f32⟩
  | 43 => ⟨S2x1024x1536, .f32⟩
  | 44 => ⟨S2x1024x1536, .i1⟩
  | 45 => ⟨S2x1024x1536, .f32⟩
  | 46 => ⟨S2x1024x1536, .f32⟩
  | 47 => ⟨S2x1024x1536, .f32⟩
  | 48 => ⟨S2x1024x1536, .f32⟩
  | 49 => ⟨S2x1024x1536, .f32⟩
  | 50 => ⟨S2x1024x1536, .f32⟩
  | 51 => ⟨S2x1024x1536, .f32⟩
  | 52 => ⟨S2x1024x1536, .f32⟩
  | 53 => ⟨S1536x16, .f32⟩
  | 54 => ⟨S1536x16, .f32⟩
  | 55 => ⟨S2x1024x1536x1, .f32⟩
  | 56 => ⟨S1x1x1536x16, .f32⟩
  | 57 => ⟨S2x1024x1536x16, .f32⟩
  | 58 => ⟨S2x1024x1536x16, .f32⟩
  | 59 => ⟨S2x1024x1536x16, .f32⟩
  | 60 => ⟨S2x1024x1536x16, .f32⟩
  | 61 => ⟨S2x1024x1536x1, .f32⟩
  | 62 => ⟨S2x1024x1x16, .f32⟩
  | 63 => ⟨S2x1024x1536x16, .f32⟩
  | 64 => ⟨S2x1024x1536x16, .f32⟩
  | 65 => ⟨S2x1024x1536x16, .f32⟩
  | 66 => ⟨S2x1024x1536x1, .f32⟩
  | 67 => ⟨S2x1024x1536x16, .f32⟩
  | 68 => ⟨S2x1024x1536x16, .f32⟩
  | 69 => ⟨S1024x2x1536x16, .f32⟩
  | 70 => ⟨S1024x2x1536x16, .f32⟩
  | 71 => ⟨S1024x2x16, .f32⟩
  | 72 => ⟨S1024x2x1536, .f32⟩
  | 73 => ⟨S1024x2x1536, .f32⟩
  | 74 => ⟨S_, .f32⟩
  | 75 => ⟨S2x1536x16, .f32⟩
  | 76 => ⟨S_, .f32⟩
  | 77 => ⟨S1024x2x1536, .f32⟩
  | 78 => ⟨S_, .f32⟩
  | 79 => ⟨S1024x2x1536, .f32⟩
  | 80 => ⟨S_, .i32⟩
  | 81 => ⟨S1024x2x1536x16, .f32⟩
  | 82 => ⟨S1024x2x1536x16, .f32⟩
  | 83 => ⟨S1024x2x16, .f32⟩
  | 84 => ⟨S1024x2x1536, .f32⟩
  | 85 => ⟨S1024x2x1536, .f32⟩
  | 86 => ⟨S1024x2x1536x16, .f32⟩
  | 87 => ⟨S1024x2x1536x16, .f32⟩
  | 88 => ⟨S1024x2x16, .f32⟩
  | 89 => ⟨S1024x2x1536, .f32⟩
  | 90 => ⟨S1024x2x1536, .f32⟩
  | 91 => ⟨S1536, .f32⟩
  | 92 => ⟨S1536, .f32⟩
  | 93 => ⟨S_, .i32⟩
  | 94 => ⟨S2x1536x16, .f32⟩
  | 95 => ⟨S2x1536x16, .f32⟩
  | 96 => ⟨S1024x2x1536, .f32⟩
  | 97 => ⟨S1024x2x1536, .f32⟩
  | 98 => ⟨S_, .i32⟩
  | 99 => ⟨S_, .i1⟩
  | 100 => ⟨S_, .i32⟩
  | 101 => ⟨S_, .i32⟩
  | 102 => ⟨S_, .i32⟩
  | 103 => ⟨S1x2x1536x16, .f32⟩
  | 104 => ⟨S2x1536x16, .f32⟩
  | 105 => ⟨S_, .i32⟩
  | 106 => ⟨S_, .i32⟩
  | 107 => ⟨S_, .i32⟩
  | 108 => ⟨S1x2x1536x16, .f32⟩
  | 109 => ⟨S2x1536x16, .f32⟩
  | 110 => ⟨S_, .i32⟩
  | 111 => ⟨S_, .i32⟩
  | 112 => ⟨S1x2x16, .f32⟩
  | 113 => ⟨S2x16, .f32⟩
  | 114 => ⟨S_, .i32⟩
  | 115 => ⟨S_, .i32⟩
  | 116 => ⟨S1x2x1536, .f32⟩
  | 117 => ⟨S2x1536, .f32⟩
  | 118 => ⟨S_, .i32⟩
  | 119 => ⟨S_, .i32⟩
  | 120 => ⟨S1x2x1536, .f32⟩
  | 121 => ⟨S2x1536, .f32⟩
  | 122 => ⟨S_, .i32⟩
  | 123 => ⟨S_, .i32⟩
  | 124 => ⟨S_, .i32⟩
  | 125 => ⟨S1x2x1536x16, .f32⟩
  | 126 => ⟨S2x1536x16, .f32⟩
  | 127 => ⟨S_, .i32⟩
  | _ => ⟨S2x1024x768, .f32⟩

abbrev hbmTy0_2 (i : Nat) : BufTy := match i % 128 with
  | 0 => ⟨S_, .i32⟩
  | 1 => ⟨S_, .i32⟩
  | 2 => ⟨S1x2x1536x16, .f32⟩
  | 3 => ⟨S2x1536x16, .f32⟩
  | 4 => ⟨S_, .i32⟩
  | 5 => ⟨S_, .i32⟩
  | 6 => ⟨S1x2x16, .f32⟩
  | 7 => ⟨S2x16, .f32⟩
  | 8 => ⟨S_, .i32⟩
  | 9 => ⟨S_, .i32⟩
  | 10 => ⟨S1x2x1536, .f32⟩
  | 11 => ⟨S2x1536, .f32⟩
  | 12 => ⟨S_, .i32⟩
  | 13 => ⟨S_, .i32⟩
  | 14 => ⟨S1x2x1536, .f32⟩
  | 15 => ⟨S2x1536, .f32⟩
  | 16 => ⟨S2x1536x16, .f32⟩
  | 17 => ⟨S2x1536x16, .f32⟩
  | 18 => ⟨S2x1536, .f32⟩
  | 19 => ⟨S1x1536, .f32⟩
  | 20 => ⟨S2x1536, .f32⟩
  | 21 => ⟨S2x1536, .f32⟩
  | 22 => ⟨S2x1536, .f32⟩
  | 23 => ⟨S2x1536, .f32⟩
  | 24 => ⟨S2x1536, .f32⟩
  | 25 => ⟨S_, .f32⟩
  | 26 => ⟨S2x1536, .f32⟩
  | 27 => ⟨S2x1536, .f32⟩
  | 28 => ⟨S_, .f32⟩
  | 29 => ⟨S2x1536, .f32⟩
  | 30 => ⟨S2x1536, .f32⟩
  | 31 => ⟨S2x1536, .f32⟩
  | 32 => ⟨S2x1536, .f32⟩
  | 33 => ⟨S2x1536x16, .f32⟩
  | 34 => ⟨S2x1536x16, .f32⟩
  | 35 => ⟨S2x1536, .f32⟩
  | 36 => ⟨S1x1536, .f32⟩
  | 37 => ⟨S2x1536, .f32⟩
  | 38 => ⟨S2x1536, .f32⟩
  | 39 => ⟨S2x1536, .f32⟩
  | 40 => ⟨S2x1536, .f32⟩
  | 41 => ⟨S2x1536, .f32⟩
  | 42 => ⟨S_, .f32⟩
  | 43 => ⟨S2x1536, .f32⟩
  | 44 => ⟨S2x1536, .f32⟩
  | 45 => ⟨S_, .f32⟩
  | 46 => ⟨S2x1536, .f32⟩
  | 47 => ⟨S2x1536, .f32⟩
  | 48 => ⟨S2x1536, .f32⟩
  | 49 => ⟨S2x1536, .f32⟩
  | 50 => ⟨S1x2x1536, .f32⟩
  | 51 => ⟨S_, .i32⟩
  | 52 => ⟨S_, .i32⟩
  | 53 => ⟨S1024x2x1536, .f32⟩
  | 54 => ⟨S1x2x1536, .f32⟩
  | 55 => ⟨S_, .i32⟩
  | 56 => ⟨S_, .i32⟩
  | 57 => ⟨S1024x2x1536, .f32⟩
  | 58 => ⟨S_, .i32⟩
  | 59 => ⟨S_, .i32⟩
  | 60 => ⟨S2x1024x1536, .f32⟩
  | 61 => ⟨S2x1024x768, .f32⟩
  | 62 => ⟨S2x1024x1536, .f32⟩
  | 63 => ⟨S2x1024x768, .f32⟩
  | 64 => ⟨S2x1024x768, .f32⟩
  | 65 => ⟨S2x1024x768, .f32⟩
  | _ => ⟨S2x1024x768, .f32⟩

abbrev hbmTy (i : Nat) : BufTy := match i / 128 with
  | 0 => hbmTy0_0 i
  | 1 => hbmTy0_1 i
  | 2 => hbmTy0_2 i
  | _ => ⟨S2x1024x768, .f32⟩

abbrev bufTy : (tb : Table) → Fin (tcTables nBuf tb) → BufTy
  | .hbm, ⟨i, _⟩ => hbmTy i
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_call0_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_0 : Ref sig .tc := ⟨.hbm, 114, rfl⟩
abbrev main_call4_v0 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_1 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_call6_cst : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_v6 : Ref sig .tc := ⟨.hbm, 174, rfl⟩
abbrev main_call6_v7 : Ref sig .tc := ⟨.hbm, 175, rfl⟩
abbrev main_call6_v8 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_cst_2 : Ref sig .tc := ⟨.hbm, 202, rfl⟩
abbrev main_v135 : Ref sig .tc := ⟨.hbm, 203, rfl⟩
abbrev main_cst_3 : Ref sig .tc := ⟨.hbm, 204, rfl⟩
abbrev main_v136 : Ref sig .tc := ⟨.hbm, 205, rfl⟩
abbrev main_cst_4 : Ref sig .tc := ⟨.hbm, 206, rfl⟩
abbrev main_v137 : Ref sig .tc := ⟨.hbm, 207, rfl⟩
abbrev main_c_5 : Ref sig .tc := ⟨.hbm, 208, rfl⟩
abbrev main_v138_0 : Ref sig .tc := ⟨.hbm, 209, rfl⟩
abbrev main_v138_1 : Ref sig .tc := ⟨.hbm, 210, rfl⟩
abbrev main_v138_2 : Ref sig .tc := ⟨.hbm, 211, rfl⟩
abbrev main_v138_3 : Ref sig .tc := ⟨.hbm, 212, rfl⟩
abbrev main_v138_4 : Ref sig .tc := ⟨.hbm, 213, rfl⟩
abbrev main_v138_5 : Ref sig .tc := ⟨.hbm, 214, rfl⟩
abbrev main_v138_6 : Ref sig .tc := ⟨.hbm, 215, rfl⟩
abbrev main_v138_7 : Ref sig .tc := ⟨.hbm, 216, rfl⟩
abbrev main_v138_8 : Ref sig .tc := ⟨.hbm, 217, rfl⟩
abbrev main_v138_9 : Ref sig .tc := ⟨.hbm, 218, rfl⟩
abbrev main_v138_10 : Ref sig .tc := ⟨.hbm, 219, rfl⟩
abbrev main_v138_11 : Ref sig .tc := ⟨.hbm, 220, rfl⟩
abbrev main_v138_12 : Ref sig .tc := ⟨.hbm, 221, rfl⟩
abbrev main_v138_13 : Ref sig .tc := ⟨.hbm, 222, rfl⟩
abbrev main_v138_14 : Ref sig .tc := ⟨.hbm, 223, rfl⟩
abbrev main_v138_15 : Ref sig .tc := ⟨.hbm, 224, rfl⟩
abbrev main_v138_16 : Ref sig .tc := ⟨.hbm, 225, rfl⟩
abbrev main_while0c_c_22 : Ref sig .tc := ⟨.hbm, 226, rfl⟩
abbrev main_while0c_v145 : Ref sig .tc := ⟨.hbm, 227, rfl⟩
abbrev main_while0b_call7_c : Ref sig .tc := ⟨.hbm, 228, rfl⟩
abbrev main_while0b_call7_c_0 : Ref sig .tc := ⟨.hbm, 229, rfl⟩
abbrev main_while0b_call7_c_1 : Ref sig .tc := ⟨.hbm, 230, rfl⟩
abbrev main_while0b_call7_v0 : Ref sig .tc := ⟨.hbm, 231, rfl⟩
abbrev main_while0b_v145 : Ref sig .tc := ⟨.hbm, 232, rfl⟩
abbrev main_while0b_call8_c : Ref sig .tc := ⟨.hbm, 233, rfl⟩
abbrev main_while0b_call8_c_0 : Ref sig .tc := ⟨.hbm, 234, rfl⟩
abbrev main_while0b_call8_c_1 : Ref sig .tc := ⟨.hbm, 235, rfl⟩
abbrev main_while0b_call8_v0 : Ref sig .tc := ⟨.hbm, 236, rfl⟩
abbrev main_while0b_v146 : Ref sig .tc := ⟨.hbm, 237, rfl⟩
abbrev main_while0b_call9_c : Ref sig .tc := ⟨.hbm, 238, rfl⟩
abbrev main_while0b_call9_c_0 : Ref sig .tc := ⟨.hbm, 239, rfl⟩
abbrev main_while0b_call9_v0 : Ref sig .tc := ⟨.hbm, 240, rfl⟩
abbrev main_while0b_v147 : Ref sig .tc := ⟨.hbm, 241, rfl⟩
abbrev main_while0b_call10_c : Ref sig .tc := ⟨.hbm, 242, rfl⟩
abbrev main_while0b_call10_c_0 : Ref sig .tc := ⟨.hbm, 243, rfl⟩
abbrev main_while0b_call10_v0 : Ref sig .tc := ⟨.hbm, 244, rfl⟩
abbrev main_while0b_v148 : Ref sig .tc := ⟨.hbm, 245, rfl⟩
abbrev main_while0b_call11_c : Ref sig .tc := ⟨.hbm, 246, rfl⟩
abbrev main_while0b_call11_c_0 : Ref sig .tc := ⟨.hbm, 247, rfl⟩
abbrev main_while0b_call11_v0 : Ref sig .tc := ⟨.hbm, 248, rfl⟩
abbrev main_while0b_v149 : Ref sig .tc := ⟨.hbm, 249, rfl⟩
abbrev main_while0b_call12_c : Ref sig .tc := ⟨.hbm, 250, rfl⟩
abbrev main_while0b_call12_c_0 : Ref sig .tc := ⟨.hbm, 251, rfl⟩
abbrev main_while0b_call12_c_1 : Ref sig .tc := ⟨.hbm, 252, rfl⟩
abbrev main_while0b_call12_v0 : Ref sig .tc := ⟨.hbm, 253, rfl⟩
abbrev main_while0b_v150 : Ref sig .tc := ⟨.hbm, 254, rfl⟩
abbrev main_while0b_call13_c : Ref sig .tc := ⟨.hbm, 255, rfl⟩
abbrev main_while0b_call13_c_0 : Ref sig .tc := ⟨.hbm, 256, rfl⟩
abbrev main_while0b_call13_c_1 : Ref sig .tc := ⟨.hbm, 257, rfl⟩
abbrev main_while0b_call13_v0 : Ref sig .tc := ⟨.hbm, 258, rfl⟩
abbrev main_while0b_v151 : Ref sig .tc := ⟨.hbm, 259, rfl⟩
abbrev main_while0b_call14_c : Ref sig .tc := ⟨.hbm, 260, rfl⟩
abbrev main_while0b_call14_c_0 : Ref sig .tc := ⟨.hbm, 261, rfl⟩
abbrev main_while0b_call14_v0 : Ref sig .tc := ⟨.hbm, 262, rfl⟩
abbrev main_while0b_v152 : Ref sig .tc := ⟨.hbm, 263, rfl⟩
abbrev main_while0b_call15_c : Ref sig .tc := ⟨.hbm, 264, rfl⟩
abbrev main_while0b_call15_c_0 : Ref sig .tc := ⟨.hbm, 265, rfl⟩
abbrev main_while0b_call15_v0 : Ref sig .tc := ⟨.hbm, 266, rfl⟩
abbrev main_while0b_v153 : Ref sig .tc := ⟨.hbm, 267, rfl⟩
abbrev main_while0b_call16_c : Ref sig .tc := ⟨.hbm, 268, rfl⟩
abbrev main_while0b_call16_c_0 : Ref sig .tc := ⟨.hbm, 269, rfl⟩
abbrev main_while0b_call16_v0 : Ref sig .tc := ⟨.hbm, 270, rfl⟩
abbrev main_while0b_v154 : Ref sig .tc := ⟨.hbm, 271, rfl⟩
abbrev main_while0b_v155 : Ref sig .tc := ⟨.hbm, 272, rfl⟩
abbrev main_while0b_v156 : Ref sig .tc := ⟨.hbm, 273, rfl⟩
abbrev main_while0b_v157 : Ref sig .tc := ⟨.hbm, 274, rfl⟩
abbrev main_while0b_v158 : Ref sig .tc := ⟨.hbm, 275, rfl⟩
abbrev main_while0b_v159 : Ref sig .tc := ⟨.hbm, 276, rfl⟩
abbrev main_while0b_v160 : Ref sig .tc := ⟨.hbm, 277, rfl⟩
abbrev main_while0b_v161 : Ref sig .tc := ⟨.hbm, 278, rfl⟩
abbrev main_while0b_call17_v0 : Ref sig .tc := ⟨.hbm, 279, rfl⟩
abbrev main_while0b_call17_v1 : Ref sig .tc := ⟨.hbm, 280, rfl⟩
abbrev main_while0b_call17_cst : Ref sig .tc := ⟨.hbm, 281, rfl⟩
abbrev main_while0b_call17_v2 : Ref sig .tc := ⟨.hbm, 282, rfl⟩
abbrev main_while0b_call17_v3 : Ref sig .tc := ⟨.hbm, 283, rfl⟩
abbrev main_while0b_call17_cst_0 : Ref sig .tc := ⟨.hbm, 284, rfl⟩
abbrev main_while0b_call17_v4 : Ref sig .tc := ⟨.hbm, 285, rfl⟩
abbrev main_while0b_call17_v5 : Ref sig .tc := ⟨.hbm, 286, rfl⟩
abbrev main_while0b_v162 : Ref sig .tc := ⟨.hbm, 287, rfl⟩
abbrev main_while0b_v163 : Ref sig .tc := ⟨.hbm, 288, rfl⟩
abbrev main_while0b_v164 : Ref sig .tc := ⟨.hbm, 289, rfl⟩
abbrev main_while0b_v165 : Ref sig .tc := ⟨.hbm, 290, rfl⟩
abbrev main_while0b_v166 : Ref sig .tc := ⟨.hbm, 291, rfl⟩
abbrev main_while0b_v167 : Ref sig .tc := ⟨.hbm, 292, rfl⟩
abbrev main_while0b_v168 : Ref sig .tc := ⟨.hbm, 293, rfl⟩
abbrev main_while0b_v169 : Ref sig .tc := ⟨.hbm, 294, rfl⟩
abbrev main_while0b_v170 : Ref sig .tc := ⟨.hbm, 295, rfl⟩
abbrev main_while0b_call18_v0 : Ref sig .tc := ⟨.hbm, 296, rfl⟩
abbrev main_while0b_call18_v1 : Ref sig .tc := ⟨.hbm, 297, rfl⟩
abbrev main_while0b_call18_cst : Ref sig .tc := ⟨.hbm, 298, rfl⟩
abbrev main_while0b_call18_v2 : Ref sig .tc := ⟨.hbm, 299, rfl⟩
abbrev main_while0b_call18_v3 : Ref sig .tc := ⟨.hbm, 300, rfl⟩
abbrev main_while0b_call18_cst_0 : Ref sig .tc := ⟨.hbm, 301, rfl⟩
abbrev main_while0b_call18_v4 : Ref sig .tc := ⟨.hbm, 302, rfl⟩
abbrev main_while0b_call18_v5 : Ref sig .tc := ⟨.hbm, 303, rfl⟩
abbrev main_while0b_v171 : Ref sig .tc := ⟨.hbm, 304, rfl⟩
abbrev main_while0b_v172 : Ref sig .tc := ⟨.hbm, 305, rfl⟩
abbrev main_while0b_call19_v0 : Ref sig .tc := ⟨.hbm, 306, rfl⟩
abbrev main_while0b_call19_c : Ref sig .tc := ⟨.hbm, 307, rfl⟩
abbrev main_while0b_call19_c_0 : Ref sig .tc := ⟨.hbm, 308, rfl⟩
abbrev main_while0b_v173 : Ref sig .tc := ⟨.hbm, 309, rfl⟩
abbrev main_while0b_call20_v0 : Ref sig .tc := ⟨.hbm, 310, rfl⟩
abbrev main_while0b_call20_c : Ref sig .tc := ⟨.hbm, 311, rfl⟩
abbrev main_while0b_call20_c_0 : Ref sig .tc := ⟨.hbm, 312, rfl⟩
abbrev main_while0b_v174 : Ref sig .tc := ⟨.hbm, 313, rfl⟩
abbrev main_while0b_c_22 : Ref sig .tc := ⟨.hbm, 314, rfl⟩
abbrev main_while0b_v175 : Ref sig .tc := ⟨.hbm, 315, rfl⟩
abbrev main_v139 : Ref sig .tc := ⟨.hbm, 316, rfl⟩
abbrev main_v140 : Ref sig .tc := ⟨.hbm, 317, rfl⟩
abbrev main_v141 : Ref sig .tc := ⟨.hbm, 318, rfl⟩
abbrev main_v142 : Ref sig .tc := ⟨.hbm, 319, rfl⟩
abbrev main_v143 : Ref sig .tc := ⟨.hbm, 320, rfl⟩
abbrev main_v144 : Ref sig .tc := ⟨.hbm, 321, rfl⟩

abbrev nD : Nat := 1
abbrev τ : Topo := Topo.v7x

variable {F : FTy → Type} [FloatOps F]

abbrev main_while0_count : Scf.Loop 32 := ⟨0#32, 1024#32, 1#32⟩
-- ==== Proof.KernelIdealSetup.lean ====
/- What the runs of the kernel body share: the branch condition over the grid, the staging and scratch buffers. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- Whether the body clears the carried scratch, from the grid coordinates. -/
abbrev cond0_0 (i : grid0.Coords) : Prop := (Scalar.cmpi .ne (Scalar.extui (Scalar.cmpi .eq (BitVec.ofNat 32 (i 1).val) 0#32)) 0#32) = 1#1
/-- It holds at the points whose number is a multiple of 8, a row's first chunks. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The buffers the body is given -/

/-- One staging buffer of the output window; what the window holds is stated through it, and the choice does not matter. -/
abbrev VO0_10 : View sig .tc .vmem S1x128x768 .f32 := (Memref.whole cc0_stg10_0 : Memref sig .tc .vmem S1x128x768 .f32).view
/-- Each window's staging buffer at point `t`, and that it is a whole buffer. -/
abbrev ms0_0 (t : Fin cfg0.N) : Memref sig .tc .vmem S1x128x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536x80 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x48x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x768 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S136x1536 .f32 := Memref.whole cc0_scratch0
abbrev scM0_1 : Memref sig .tc .vmem S128x16x1536 .f32 := Memref.whole cc0_scratch1
abbrev scM0_2 : Memref sig .tc .vmem S128x16x1536 .f32 := Memref.whole cc0_scratch2
abbrev scM0_3 : Memref sig .tc .vmem S16x1536 .f32 := Memref.whole cc0_scratch3
/-- The scratch `arg13` the kernel carries between points, as a view: what it holds is stated through it. -/
abbrev VS0_0 : View sig .tc .vmem S136x1536 .f32 := scM0_0.view
/-- The scratch `arg16` the kernel carries between points, as a view: what it holds is stated through it. -/
abbrev VS0_3 : View sig .tc .vmem S16x1536 .f32 := scM0_3.view

/-- What the region holds besides the windows: the four scratch buffers, each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KernelIdealRunA.lean ====
/- The kernel body at the first chunk of a sequence: the state and the convolution tail are cleared first. -/
module

public import proofs.«01_k».proof.Proof.KernelIdealSetup

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole)

set_option maxHeartbeats 1000000 in
/-- The stores the body makes at the first chunk of a row, last first, into the output and the four scratch buffers, with the
    proof that it makes them: started with the inputs at `x0` to `x9`, the carried scratch at anything and the
    other buffers at anything, it runs to its end with the inputs as they were and the stores made. -/
noncomputable def kernelRun0_A (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) :
    Σ' (L10 : List (View.Piece (Elt F) S1x128x768 .f32)), Σ' (LS0 : List (View.Piece (Elt F) S136x1536 .f32)), Σ' (LS3 : List (View.Piece (Elt F) S16x1536 .f32)), Σ' (LT1 : List (View.Piece (Elt F) S128x16x1536 .f32)), { LT2 : List (View.Piece (Elt F) S128x16x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3)) -∗ K ⟨⟩))
          ⊢ wp frame (wpE (defs₀ (F := F)) Variants.none c none) E (cc0__mamba_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__mamba_body_eq_skeleton]; unfold cc0__mamba_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Body

end
-- ==== Proof.KernelIdealRunB.lean ====
/- The kernel body at a later chunk of a sequence: the state and the convolution tail are what the chunk before left. -/
module

public import proofs.«01_k».proof.Proof.KernelIdealRunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole)

set_option maxHeartbeats 1000000 in
/-- The stores the body makes at a later chunk of a row, last first, into the output and the four scratch buffers, with the
    proof that it makes them: started with the inputs at `x0` to `x9`, the carried scratch at what the chunk before left (`xs0`, `xs3`) and the
    other buffers at anything, it runs to its end with the inputs as they were and the stores made. -/
noncomputable def kernelRun0_B (hc0 : ¬cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (xs0 : Vec F S136x1536 .f32) (xs3 : Vec F S16x1536 .f32) :
    Σ' (L10 : List (View.Piece (Elt F) S1x128x768 .f32)), Σ' (LS0 : List (View.Piece (Elt F) S136x1536 .f32)), Σ' (LS3 : List (View.Piece (Elt F) S16x1536 .f32)), Σ' (LT1 : List (View.Piece (Elt F) S128x16x1536 .f32)), { LT2 : List (View.Piece (Elt F) S128x16x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xs0) LS0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3)) -∗ K ⟨⟩))
          ⊢ wp frame (wpE (defs₀ (F := F)) Variants.none c none) E (cc0__mamba_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__mamba_body_eq_skeleton]; unfold cc0__mamba_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg16.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexact HS0
    isplitl [HS1]; · iexists _; iexact HS1
    isplitl [HS2]; · iexists _; iexact HS2
    iexists _; iexact HS3

end Cert.KernelIdeal.Body

end
-- ==== Proof.KernelIdealFrame.lean ====
/- What the buffers hold after each grid point, the body obligation, the launch, and the frame claim. -/
module

public import proofs.«01_k».proof.Proof.KernelIdealRunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Covers

variable (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole)

/-- The store the first chunk makes into the output covers its block. -/
theorem cover0_A_10 (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (y : S1x128x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 S1x128x768.size (by sl_kernel_rfl) y

/-- What the first chunk leaves in the output's block. -/
def out0_A_10 (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) : Vec F S1x128x768 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1)

/-- The three stores the first chunk makes into the buffer of padded inputs, 8 rows, 128 rows and 3 rows, cover it. -/
theorem scover0_A_0 (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (y : S136x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 ![1, 1536] (by sl_kernel_rfl) y

/-- What the first chunk leaves in the buffer of padded inputs. -/
def sout0_A_0 (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) : Vec F S136x1536 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1)

/-- The stores the first chunk makes into the state's buffer cover it. -/
theorem scover0_A_3 (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (y : S16x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1 S16x1536.size (by sl_kernel_rfl) y

/-- What the first chunk leaves in the state's buffer. -/
def sout0_A_3 (hc0 : cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) : Vec F S16x1536 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.2.1)

/-- The store a later chunk makes into the output covers its block. -/
theorem cover0_B_10 (hc0 : ¬cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (xs0 : Vec F S136x1536 .f32) (xs3 : Vec F S16x1536 .f32) (y : S1x128x768.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).1 S1x128x768.size (by sl_kernel_rfl) y

/-- What a later chunk leaves in the output's block. -/
def out0_B_10 (hc0 : ¬cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (xs0 : Vec F S136x1536 .f32) (xs3 : Vec F S16x1536 .f32) : Vec F S1x128x768 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).1)

/-- What a later chunk leaves in the buffer of padded inputs, over what the chunk before left there. -/
def sout0_B_0 (hc0 : ¬cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (xs0 : Vec F S136x1536 .f32) (xs3 : Vec F S16x1536 .f32) : Vec F S136x1536 .f32 :=
  arg13.view.read (Elt F) (arg13.view.writes (Elt F) (harg13.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).2.1)

/-- The stores a later chunk makes into the state's buffer cover it. -/
theorem scover0_B_3 (hc0 : ¬cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (xs0 : Vec F S136x1536 .f32) (xs3 : Vec F S16x1536 .f32) (y : S16x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).2.2.1 S16x1536.size (by sl_kernel_rfl) y

/-- What a later chunk leaves in the state's buffer. -/
def sout0_B_3 (hc0 : ¬cond0_0 i)
    (x0 : Vec F S1x128x768 .f32) (x1 : Vec F S1x768x3072 .bf16) (x2 : Vec F S1x4x1536 .f32) (x3 : Vec F S1x1x1536 .f32) (x4 : Vec F S1x1536x80 .bf16) (x5 : Vec F S1x48x1536 .bf16) (x6 : Vec F S1x1x1536 .f32) (x7 : Vec F S1x16x1536 .f32) (x8 : Vec F S1x1x1536 .f32) (x9 : Vec F S1x1536x768 .bf16) (xs0 : Vec F S136x1536 .f32) (xs3 : Vec F S16x1536 .f32) : Vec F S16x1536 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3).2.2.1)

end Covers

variable (m : (ℓ : Loc nD τ sig) → Buf (Elt F) ℓ) (ρ : Dev nD → PrngReg)

/-! ## What the outputs hold after each point -/

/-- What the output's block, the buffer of padded inputs and the state's buffer hold after point `n`: a row's first chunk
    starts from nothing, a later one from what the point before left. -/
def outsAt0 (c : Dev nD) : (n : ℕ) → n < cfg0.N → Vec F S1x128x768 .f32 × Vec F S136x1536 .f32 × Vec F S16x1536 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 8 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2)

/-- `outsAt0` at a row's first chunk. -/
theorem outsAt0_A (c : Dev nD) (t : Fin cfg0.N) (h0 : t.val % 8 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- `outsAt0` at a later chunk, over what the point before left. -/
theorem outsAt0_B (c : Dev nD) (t : Fin cfg0.N) (h0 : ¬t.val % 8 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- What holds between the points besides the windows, before point `n`: at the start every scratch buffer holds anything;
    afterwards the two carried ones hold what the point before left and the other two anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2)) ∗ (∃ r, prngReg c r)) := by
  cases n with
  | zero => exact absurd rfl hz
  | succ n => rfl

/-! ## The pipeline's proof data -/

/-- What is said of the pipeline on core `c`: the arrays as the launch finds them; after point `t` each input's buffer at its
    block and the output's at `outsAt0`; between the points, `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q _ := fullShare
  owed _ := 0

/-- The arrays are those the launch finds. -/
theorem A_eq (c : Dev nD) (w : Fin cfg0.W) : (dats m 0 c).A w = V m c (Pipeline.arrRef spec0 w) := by
  dsimp only [dats]

/-- What holds at a point's start, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

/-- Each input's buffer holds its block at every point, whether or not it was copied in just then. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' buffers hold their blocks; the point's number says whether it is a row's first chunk;
    the run of that case applies, with the carried scratch at what the point before left, and leaves it at this point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      unfold out0_A_10 sout0_A_0 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%fT1, HS1⟩, ⟨%fT2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_10 sout0_A_0 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexact HS1
      isplitl [HS2]; · iexact HS2
      isplitl [HS3]; · iexists _; iexact HS3
      iintro ⟨H0, H1, H2, H3, H4, H5, H6, H7, H8, H9, ⟨%e10, H10⟩, ⟨%es0, HS0⟩, ⟨%fT1, HS1⟩, ⟨%fT2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_10 sout0_B_0 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, HS0, ⟨%fT1, HS1⟩, ⟨%fT2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)

/-- The body the pipeline calls at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- What the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts with is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the carried scratch's contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
set_option maxHeartbeats 800000 in
/-- The launch: every execution ends, with each array of the pipeline at what the blocks make of it, every other buffer as
    the host leaves it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The frame: the program ends, its arguments are unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Body

end
-- ==== Proof.ReferenceRun.lean ====
/-
  The reference's run told by its step. A valuation HOLDS a state when the carried buffers hold the state's fields, the
  constants of the loop hold the values computed before it, and the counter holds the trip's number. One trip keeps
  holding with `step` applied, so the result is a function of `step` iterated from `init`.
-/
module

public import proofs.«01_k».proof.Proof.Gen.ReferenceIdeal.Run
public import proofs.«01_k».proof.Proof.Gen.ReferenceIdeal.Step

@[expose] public section

noncomputable section

namespace Cert.ReferenceIdeal.TripRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_13 : V0 (Proc.devRef .tc main_v138_13) = s.main_v138_13
  f_14 : V0 (Proc.devRef .tc main_v138_14) = s.main_v138_14
  f_15 : V0 (Proc.devRef .tc main_v138_15) = s.main_v138_15
  f_16 : V0 (Proc.devRef .tc main_v138_16) = s.main_v138_16
  f_0 : V0 (Proc.devRef .tc main_v138_0) = s.main_v138_0
  f_1 : V0 (Proc.devRef .tc main_v138_1) = s.main_v138_1
  f_2 : V0 (Proc.devRef .tc main_v138_2) = s.main_v138_2
  f_3 : V0 (Proc.devRef .tc main_v138_3) = s.main_v138_3
  f_4 : V0 (Proc.devRef .tc main_v138_4) = s.main_v138_4
  f_5 : V0 (Proc.devRef .tc main_v138_5) = s.main_v138_5
  f_6 : V0 (Proc.devRef .tc main_v138_6) = s.main_v138_6
  f_7 : V0 (Proc.devRef .tc main_v138_7) = s.main_v138_7
  f_8 : V0 (Proc.devRef .tc main_v138_8) = s.main_v138_8
  f_9 : V0 (Proc.devRef .tc main_v138_9) = s.main_v138_9
  f_10 : V0 (Proc.devRef .tc main_v138_10) = s.main_v138_10
  f_11 : V0 (Proc.devRef .tc main_v138_11) = s.main_v138_11
  n_12 : V0 (Proc.devRef .tc main_v138_12) = constantI S_ 32 (BitVec.ofNat 32 j)

variable {V0 s j}

set_option maxRecDepth 8192 in
theorem al_0 (h : Holds V0 s j) : (constantI S_ 32 0#32 : (Proc.devRef .tc main_while0b_call7_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call7_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call7_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x2x1536x16 (V0 (Proc.devRef .tc main_v138_0)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16 : (Proc.devRef .tc main_while0b_call7_v0 : DevRef τ sig).ty.Contents (Elt F)) = Cert.ReferenceIdeal.Step.b3 j s := by
  unfold Cert.ReferenceIdeal.Step.b3
  rw [← al_0 h, ← al_1 h, ← al_2 h, h.f_0, h.n_12]
  try rfl
set_option maxRecDepth 8192 in
theorem al_4 (h : Holds V0 s j) : (shapeCast S2x1536x16 (Host.dynamicSlice S1x2x1536x16 (V0 (Proc.devRef .tc main_v138_0)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16) shapeCasts_S1x2x1536x16_S2x1536x16 : (Proc.devRef .tc main_while0b_v145 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call8_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call8_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call8_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x2x1536x16 (V0 (Proc.devRef .tc main_v138_1)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16 : (Proc.devRef .tc main_while0b_call8_v0 : DevRef τ sig).ty.Contents (Elt F)) = Cert.ReferenceIdeal.Step.b8 j s := by
  unfold Cert.ReferenceIdeal.Step.b8
  rw [← al_5 h, ← al_6 h, ← al_7 h, h.f_1, h.n_12]
  try rfl
set_option maxRecDepth 8192 in
theorem al_9 (h : Holds V0 s j) : (shapeCast S2x1536x16 (Host.dynamicSlice S1x2x1536x16 (V0 (Proc.devRef .tc main_v138_1)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16) shapeCasts_S1x2x1536x16_S2x1536x16 : (Proc.devRef .tc main_while0b_v146 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call9_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call9_c_0 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16 : (Proc.devRef .tc main_while0b_call9_v0 : DevRef τ sig).ty.Contents (Elt F)) = Cert.ReferenceIdeal.Step.b12 j s := by
  unfold Cert.ReferenceIdeal.Step.b12
  rw [← al_10 h, ← al_11 h, h.f_2, h.n_12]
  try rfl
set_option maxRecDepth 8192 in
theorem al_13 (h : Holds V0 s j) : (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16 : (Proc.devRef .tc main_while0b_v147 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call10_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call10_c_0 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536 : (Proc.devRef .tc main_while0b_call10_v0 : DevRef τ sig).ty.Contents (Elt F)) = Cert.ReferenceIdeal.Step.b16 j s := by
  unfold Cert.ReferenceIdeal.Step.b16
  rw [← al_14 h, ← al_15 h, h.f_3, h.n_12]
  try rfl
set_option maxRecDepth 8192 in
theorem al_17 (h : Holds V0 s j) : (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536 : (Proc.devRef .tc main_while0b_v148 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call11_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call11_c_0 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x2x1536 (V0 (Proc.devRef .tc main_v138_4)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536 : (Proc.devRef .tc main_while0b_call11_v0 : DevRef τ sig).ty.Contents (Elt F)) = Cert.ReferenceIdeal.Step.b20 j s := by
  unfold Cert.ReferenceIdeal.Step.b20
  rw [← al_18 h, ← al_19 h, h.f_4, h.n_12]
  try rfl
set_option maxRecDepth 8192 in
theorem al_21 (h : Holds V0 s j) : (res_main_while0b_v149 V0 : (Proc.devRef .tc main_while0b_v149 : DevRef τ sig).ty.Contents (Elt F)) = Cert.ReferenceIdeal.Step.b21 j s := by
  unfold res_main_while0b_v149 Cert.ReferenceIdeal.Step.b21
  rw [← al_20 h]
  try rfl
set_option maxRecDepth 8192 in
theorem al_22 (h : Holds V0 s j) : (constantI S_ 32 0#32 : (Proc.devRef .tc main_while0b_call12_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call12_c_0 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call12_c_1 : DevRef τ sig).ty.Contents (Elt F)) = Cert.ReferenceIdeal.Step.b24 j s := by
  unfold Cert.ReferenceIdeal.Step.b24
  rfl
set_option maxRecDepth 8192 in
theorem al_25 (h : Holds V0 s j) : (Host.dynamicSlice S1x2x1536x16 (V0 (Proc.devRef .tc main_v138_5)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16 : (Proc.devRef .tc main_while0b_call12_v0 : DevRef τ sig).ty.Contents (Elt F)) = Cert.ReferenceIdeal.Step.b25 j s := by
  unfold Cert.ReferenceIdeal.Step.b25
  rw [← al_22 h, ← al_23 h, ← al_24 h, h.f_5, h.n_12]
  try rfl
set_option maxRecDepth 8192 in
theorem al_26 (h : Holds V0 s j) : (shapeCast S2x1536x16 (Host.dynamicSlice S1x2x1536x16 (V0 (Proc.devRef .tc main_v138_5)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16) shapeCasts_S1x2x1536x16_S2x1536x16 : (Proc.devRef .tc main_while0b_v150 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (constantI S_ 32 0#32 : (Proc.devRef .tc main_while0b_call13_c : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_call13_c_0 : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call13_c_1 : DevRef τ sig).ty.Contents (Elt F)) = Cert.ReferenceIdeal.Step.b29 j s := by
  unfold Cert.ReferenceIdeal.Step.b29
  rfl
set_option maxRecDepth 8192 in
theorem al_30 (h : Holds V0 s j) : (Host.dynamicSlice S1x2x1536x16 (V0 (Proc.devRef .tc main_v138_6)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16 : (Proc.devRef .tc main_while0b_call13_v0 : DevRef τ sig).ty.Contents (Elt F)) = Cert.ReferenceIdeal.Step.b30 j s := by
  unfold Cert.ReferenceIdeal.Step.b30
  rw [← al_27 h, ← al_28 h, ← al_29 h, h.f_6, h.n_12]
  try rfl
set_option maxRecDepth 8192 in
theorem al_31 (h : Holds V0 s j) : (shapeCast S2x1536x16 (Host.dynamicSlice S1x2x1536x16 (V0 (Proc.devRef .tc main_v138_6)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16) shapeCasts_S1x2x1536x16_S2x1536x16 : (Proc.devRef .tc main_while0b_v151 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (constantI S_ 32 0#32 : (Proc.devRef .tc main_while0b_call14_c : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call14_c_0 : DevRef τ sig).ty.Contents (Elt F)) = Cert.ReferenceIdeal.Step.b33 j s := by
  unfold Cert.ReferenceIdeal.Step.b33
  rfl
set_option maxRecDepth 8192 in
theorem al_34 (h : Holds V0 s j) : (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16 : (Proc.devRef .tc main_while0b_call14_v0 : DevRef τ sig).ty.Contents (Elt F)) = Cert.ReferenceIdeal.Step.b34 j s := by
  unfold Cert.ReferenceIdeal.Step.b34
  rw [← al_32 h, ← al_33 h, h.f_7, h.n_12]
  try rfl
set_option maxRecDepth 8192 in
theorem al_35 (h : Holds V0 s j) : (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16 : (Proc.devRef .tc main_while0b_v152 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (constantI S_ 32 0#32 : (Proc.devRef .tc main_while0b_call15_c : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call15_c_0 : DevRef τ sig).ty.Contents (Elt F)) = Cert.ReferenceIdeal.Step.b37 j s := by
  unfold Cert.ReferenceIdeal.Step.b37
  rfl
set_option maxRecDepth 8192 in
theorem al_38 (h : Holds V0 s j) : (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536 : (Proc.devRef .tc main_while0b_call15_v0 : DevRef τ sig).ty.Contents (Elt F)) = Cert.ReferenceIdeal.Step.b38 j s := by
  unfold Cert.ReferenceIdeal.Step.b38
  rw [← al_36 h, ← al_37 h, h.f_8, h.n_12]
  try rfl
set_option maxRecDepth 8192 in
theorem al_39 (h : Holds V0 s j) : (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536 : (Proc.devRef .tc main_while0b_v153 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (constantI S_ 32 0#32 : (Proc.devRef .tc main_while0b_call16_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call16_c_0 : DevRef τ sig).ty.Contents (Elt F)) = Cert.ReferenceIdeal.Step.b41 j s := by
  unfold Cert.ReferenceIdeal.Step.b41
  rfl
set_option maxRecDepth 8192 in
theorem al_42 (h : Holds V0 s j) : (Host.dynamicSlice S1x2x1536 (V0 (Proc.devRef .tc main_v138_9)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536 : (Proc.devRef .tc main_while0b_call16_v0 : DevRef τ sig).ty.Contents (Elt F)) = Cert.ReferenceIdeal.Step.b42 j s := by
  unfold Cert.ReferenceIdeal.Step.b42
  rw [← al_40 h, ← al_41 h, h.f_9, h.n_12]
  try rfl
set_option maxRecDepth 8192 in
theorem al_43 (h : Holds V0 s j) : (res_main_while0b_v154 V0 : (Proc.devRef .tc main_while0b_v154 : DevRef τ sig).ty.Contents (Elt F)) = Cert.ReferenceIdeal.Step.b43 j s := by
  unfold res_main_while0b_v154 Cert.ReferenceIdeal.Step.b43
  rw [← al_42 h]
  try rfl
set_option maxRecDepth 8192 in
theorem al_44 (h : Holds V0 s j) : (mulf (shapeCast S2x1536x16 (Host.dynamicSlice S1x2x1536x16 (V0 (Proc.devRef .tc main_v138_0)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16) shapeCasts_S1x2x1536x16_S2x1536x16) (V0 (Proc.devRef .tc main_v138_13)) : (Proc.devRef .tc main_while0b_v155 : DevRef τ sig).ty.Contents (Elt F)) = Cert.ReferenceIdeal.Step.b44 j s := by
  unfold Cert.ReferenceIdeal.Step.b44
  rw [← al_4 h, h.f_13]
  try rfl
set_option maxRecDepth 8192 in
theorem al_45 (h : Holds V0 s j) : (res_main_while0b_v156 V0 : (Proc.devRef .tc main_while0b_v156 : DevRef τ sig).ty.Contents (Elt F)) = Cert.ReferenceIdeal.Step.b45 j s := by
  unfold res_main_while0b_v156 Cert.ReferenceIdeal.Step.b45
  rw [← al_44 h, ← al_9 h]
  try rfl
set_option maxRecDepth 8192 in
theorem al_46 (h : Holds V0 s j) : (Host.dotGeneral dot_S2x1536x16_S2x16_S2x1536_2_1_1_n_0_0 none (res_main_while0b_v156 V0) (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16) : (Proc.devRef .tc main_while0b_v157 : DevRef τ sig).ty.Contents (Elt F)) = Cert.ReferenceIdeal.Step.b46 j s := by
  unfold Cert.ReferenceIdeal.Step.b46
  rw [← al_45 h, ← al_13 h]
  try rfl
set_option maxRecDepth 8192 in
theorem al_47 (h : Holds V0 s j) : (broadcastInDim S1x1536 ![1] bcast_S1536_S1x1536_1 (V0 (Proc.devRef .tc main_v138_10)) : (Proc.devRef .tc main_while0b_v158 : DevRef τ sig).ty.Contents (Elt F)) = Cert.ReferenceIdeal.Step.b47 j s := by
  unfold Cert.ReferenceIdeal.Step.b47
  rw [h.f_10]
  try rfl
set_option maxRecDepth 8192 in
theorem al_48 (h : Holds V0 s j) : (broadcastInDim S2x1536 ![0, 1] bcast_S1x1536_S2x1536_0_1 (broadcastInDim S1x1536 ![1] bcast_S1536_S1x1536_1 (V0 (Proc.devRef .tc main_v138_10))) : (Proc.devRef .tc main_while0b_v159 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_10)))) : (Proc.devRef .tc main_while0b_v160 : DevRef τ sig).ty.Contents (Elt F)) = Cert.ReferenceIdeal.Step.b49 j s := by
  unfold Cert.ReferenceIdeal.Step.b49
  rw [← al_17 h, ← al_48 h]
  try rfl
set_option maxRecDepth 8192 in
theorem al_50 (h : Holds V0 s j) : (addf (Host.dotGeneral dot_S2x1536x16_S2x16_S2x1536_2_1_1_n_0_0 none (res_main_while0b_v156 V0) (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_10))))) : (Proc.devRef .tc main_while0b_v161 : DevRef τ sig).ty.Contents (Elt F)) = Cert.ReferenceIdeal.Step.b50 j s := by
  unfold Cert.ReferenceIdeal.Step.b50
  rw [← al_46 h, ← al_49 h]
  try rfl
set_option maxRecDepth 8192 in
theorem al_51 (h : Holds V0 s j) : (Host.negf (res_main_while0b_v149 V0) : (Proc.devRef .tc main_while0b_call17_v0 : DevRef τ sig).ty.Contents (Elt F)) = Cert.ReferenceIdeal.Step.b51 j s := by
  unfold Cert.ReferenceIdeal.Step.b51
  rw [← al_21 h]
  try rfl
set_option maxRecDepth 8192 in
theorem al_52 (h : Holds V0 s j) : (Host.exp (Host.negf (res_main_while0b_v149 V0)) : (Proc.devRef .tc main_while0b_call17_v1 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (constant S_ .f32 0x3F800000#32 : (Proc.devRef .tc main_while0b_call17_cst : DevRef τ sig).ty.Contents (Elt F)) = Cert.ReferenceIdeal.Step.b53 j s := by
  unfold Cert.ReferenceIdeal.Step.b53
  rfl
set_option maxRecDepth 8192 in
theorem al_54 (h : Holds V0 s j) : (broadcastInDim S2x1536 ![] bcast_S_S2x1536 (constant S_ .f32 0x3F800000#32) : (Proc.devRef .tc main_while0b_call17_v2 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (addf (broadcastInDim S2x1536 ![] bcast_S_S2x1536 (constant S_ .f32 0x3F800000#32)) (Host.exp (Host.negf (res_main_while0b_v149 V0))) : (Proc.devRef .tc main_while0b_call17_v3 : DevRef τ sig).ty.Contents (Elt F)) = Cert.ReferenceIdeal.Step.b55 j s := by
  unfold Cert.ReferenceIdeal.Step.b55
  rw [← al_54 h, ← al_52 h]
  try rfl
set_option maxRecDepth 8192 in
theorem al_56 (h : Holds V0 s j) : (constant S_ .f32 0x3F800000#32 : (Proc.devRef .tc main_while0b_call17_cst_0 : DevRef τ sig).ty.Contents (Elt F)) = Cert.ReferenceIdeal.Step.b56 j s := by
  unfold Cert.ReferenceIdeal.Step.b56
  rfl
set_option maxRecDepth 8192 in
theorem al_57 (h : Holds V0 s j) : (broadcastInDim S2x1536 ![] bcast_S_S2x1536 (constant S_ .f32 0x3F800000#32) : (Proc.devRef .tc main_while0b_call17_v4 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v149 V0)))) : (Proc.devRef .tc main_while0b_call17_v5 : DevRef τ sig).ty.Contents (Elt F)) = Cert.ReferenceIdeal.Step.b58 j s := by
  unfold Cert.ReferenceIdeal.Step.b58
  rw [← al_57 h, ← al_55 h]
  try rfl
set_option maxRecDepth 8192 in
theorem al_59 (h : Holds V0 s j) : (mulf (res_main_while0b_v149 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v149 V0))))) : (Proc.devRef .tc main_while0b_v162 : DevRef τ sig).ty.Contents (Elt F)) = Cert.ReferenceIdeal.Step.b59 j s := by
  unfold Cert.ReferenceIdeal.Step.b59
  rw [← al_21 h, ← al_58 h]
  try rfl
set_option maxRecDepth 8192 in
theorem al_60 (h : Holds V0 s j) : (mulf (addf (Host.dotGeneral dot_S2x1536x16_S2x16_S2x1536_2_1_1_n_0_0 none (res_main_while0b_v156 V0) (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_10)))))) (mulf (res_main_while0b_v149 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v149 V0)))))) : (Proc.devRef .tc main_while0b_v163 : DevRef τ sig).ty.Contents (Elt F)) = Cert.ReferenceIdeal.Step.b60 j s := by
  unfold Cert.ReferenceIdeal.Step.b60
  rw [← al_50 h, ← al_59 h]
  try rfl
set_option maxRecDepth 8192 in
theorem al_61 (h : Holds V0 s j) : (mulf (shapeCast S2x1536x16 (Host.dynamicSlice S1x2x1536x16 (V0 (Proc.devRef .tc main_v138_5)) (fun k => (((![V0 (Proc.devRef .tc main_v138_12), constantI S_ 32 0#32, constantI S_ 32 0#32, constantI S_ 32 0#32] : Fin 4 → (⟨S_, .i32⟩ : BufTy).Contents (Elt F))) k (Shape.Idx.first h_S_)).toInt) sliceFits_S1024x2x1536x16_S1x2x1536x16) shapeCasts_S1x2x1536x16_S2x1536x16) (V0 (Proc.devRef .tc main_v138_14)) : (Proc.devRef .tc main_while0b_v164 : DevRef τ sig).ty.Contents (Elt F)) = Cert.ReferenceIdeal.Step.b61 j s := by
  unfold Cert.ReferenceIdeal.Step.b61
  rw [← al_26 h, h.f_14]
  try rfl
set_option maxRecDepth 8192 in
theorem al_62 (h : Holds V0 s j) : (res_main_while0b_v165 V0 : (Proc.devRef .tc main_while0b_v165 : DevRef τ sig).ty.Contents (Elt F)) = Cert.ReferenceIdeal.Step.b62 j s := by
  unfold res_main_while0b_v165 Cert.ReferenceIdeal.Step.b62
  rw [← al_61 h, ← al_31 h]
  try rfl
set_option maxRecDepth 8192 in
theorem al_63 (h : Holds V0 s j) : (Host.dotGeneral dot_S2x1536x16_S2x16_S2x1536_2_1_1_n_0_0 none (res_main_while0b_v165 V0) (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16) : (Proc.devRef .tc main_while0b_v166 : DevRef τ sig).ty.Contents (Elt F)) = Cert.ReferenceIdeal.Step.b63 j s := by
  unfold Cert.ReferenceIdeal.Step.b63
  rw [← al_62 h, ← al_35 h]
  try rfl
set_option maxRecDepth 8192 in
theorem al_64 (h : Holds V0 s j) : (broadcastInDim S1x1536 ![1] bcast_S1536_S1x1536_1 (V0 (Proc.devRef .tc main_v138_11)) : (Proc.devRef .tc main_while0b_v167 : DevRef τ sig).ty.Contents (Elt F)) = Cert.ReferenceIdeal.Step.b64 j s := by
  unfold Cert.ReferenceIdeal.Step.b64
  rw [h.f_11]
  try rfl
set_option maxRecDepth 8192 in
theorem al_65 (h : Holds V0 s j) : (broadcastInDim S2x1536 ![0, 1] bcast_S1x1536_S2x1536_0_1 (broadcastInDim S1x1536 ![1] bcast_S1536_S1x1536_1 (V0 (Proc.devRef .tc main_v138_11))) : (Proc.devRef .tc main_while0b_v168 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (mulf (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_11)))) : (Proc.devRef .tc main_while0b_v169 : DevRef τ sig).ty.Contents (Elt F)) = Cert.ReferenceIdeal.Step.b66 j s := by
  unfold Cert.ReferenceIdeal.Step.b66
  rw [← al_39 h, ← al_65 h]
  try rfl
set_option maxRecDepth 8192 in
theorem al_67 (h : Holds V0 s j) : (addf (Host.dotGeneral dot_S2x1536x16_S2x16_S2x1536_2_1_1_n_0_0 none (res_main_while0b_v165 V0) (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_11))))) : (Proc.devRef .tc main_while0b_v170 : DevRef τ sig).ty.Contents (Elt F)) = Cert.ReferenceIdeal.Step.b67 j s := by
  unfold Cert.ReferenceIdeal.Step.b67
  rw [← al_63 h, ← al_66 h]
  try rfl
set_option maxRecDepth 8192 in
theorem al_68 (h : Holds V0 s j) : (Host.negf (res_main_while0b_v154 V0) : (Proc.devRef .tc main_while0b_call18_v0 : DevRef τ sig).ty.Contents (Elt F)) = Cert.ReferenceIdeal.Step.b68 j s := by
  unfold Cert.ReferenceIdeal.Step.b68
  rw [← al_43 h]
  try rfl
set_option maxRecDepth 8192 in
theorem al_69 (h : Holds V0 s j) : (Host.exp (Host.negf (res_main_while0b_v154 V0)) : (Proc.devRef .tc main_while0b_call18_v1 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (constant S_ .f32 0x3F800000#32 : (Proc.devRef .tc main_while0b_call18_cst : DevRef τ sig).ty.Contents (Elt F)) = Cert.ReferenceIdeal.Step.b70 j s := by
  unfold Cert.ReferenceIdeal.Step.b70
  rfl
set_option maxRecDepth 8192 in
theorem al_71 (h : Holds V0 s j) : (broadcastInDim S2x1536 ![] bcast_S_S2x1536 (constant S_ .f32 0x3F800000#32) : (Proc.devRef .tc main_while0b_call18_v2 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (addf (broadcastInDim S2x1536 ![] bcast_S_S2x1536 (constant S_ .f32 0x3F800000#32)) (Host.exp (Host.negf (res_main_while0b_v154 V0))) : (Proc.devRef .tc main_while0b_call18_v3 : DevRef τ sig).ty.Contents (Elt F)) = Cert.ReferenceIdeal.Step.b72 j s := by
  unfold Cert.ReferenceIdeal.Step.b72
  rw [← al_71 h, ← al_69 h]
  try rfl
set_option maxRecDepth 8192 in
theorem al_73 (h : Holds V0 s j) : (constant S_ .f32 0x3F800000#32 : (Proc.devRef .tc main_while0b_call18_cst_0 : DevRef τ sig).ty.Contents (Elt F)) = Cert.ReferenceIdeal.Step.b73 j s := by
  unfold Cert.ReferenceIdeal.Step.b73
  rfl
set_option maxRecDepth 8192 in
theorem al_74 (h : Holds V0 s j) : (broadcastInDim S2x1536 ![] bcast_S_S2x1536 (constant S_ .f32 0x3F800000#32) : (Proc.devRef .tc main_while0b_call18_v4 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v154 V0)))) : (Proc.devRef .tc main_while0b_call18_v5 : DevRef τ sig).ty.Contents (Elt F)) = Cert.ReferenceIdeal.Step.b75 j s := by
  unfold Cert.ReferenceIdeal.Step.b75
  rw [← al_74 h, ← al_72 h]
  try rfl
set_option maxRecDepth 8192 in
theorem al_76 (h : Holds V0 s j) : (mulf (res_main_while0b_v154 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v154 V0))))) : (Proc.devRef .tc main_while0b_v171 : DevRef τ sig).ty.Contents (Elt F)) = Cert.ReferenceIdeal.Step.b76 j s := by
  unfold Cert.ReferenceIdeal.Step.b76
  rw [← al_43 h, ← al_75 h]
  try rfl
set_option maxRecDepth 8192 in
theorem al_77 (h : Holds V0 s j) : (mulf (addf (Host.dotGeneral dot_S2x1536x16_S2x16_S2x1536_2_1_1_n_0_0 none (res_main_while0b_v165 V0) (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_11)))))) (mulf (res_main_while0b_v154 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v154 V0)))))) : (Proc.devRef .tc main_while0b_v172 : DevRef τ sig).ty.Contents (Elt F)) = Cert.ReferenceIdeal.Step.b77 j s := by
  unfold Cert.ReferenceIdeal.Step.b77
  rw [← al_67 h, ← al_76 h]
  try rfl
set_option maxRecDepth 8192 in
theorem al_78 (h : Holds V0 s j) : (broadcastInDim S1x2x1536 ![1, 2] bcast_S2x1536_S1x2x1536_1_2 (mulf (addf (Host.dotGeneral dot_S2x1536x16_S2x16_S2x1536_2_1_1_n_0_0 none (res_main_while0b_v156 V0) (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_10)))))) (mulf (res_main_while0b_v149 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v149 V0))))))) : (Proc.devRef .tc main_while0b_call19_v0 : DevRef τ sig).ty.Contents (Elt F)) = Cert.ReferenceIdeal.Step.b78 j s := by
  unfold Cert.ReferenceIdeal.Step.b78
  rw [← al_60 h]
  try rfl
set_option maxRecDepth 8192 in
theorem al_79 (h : Holds V0 s j) : (constantI S_ 32 0#32 : (Proc.devRef .tc main_while0b_call19_c : DevRef τ sig).ty.Contents (Elt F)) = Cert.ReferenceIdeal.Step.b79 j s := by
  unfold Cert.ReferenceIdeal.Step.b79
  rfl
set_option maxRecDepth 8192 in
theorem al_80 (h : Holds V0 s j) : (constantI S_ 32 0#32 : (Proc.devRef .tc main_while0b_call19_c_0 : DevRef τ sig).ty.Contents (Elt F)) = Cert.ReferenceIdeal.Step.b80 j s := by
  unfold Cert.ReferenceIdeal.Step.b80
  rfl
set_option maxRecDepth 8192 in
theorem al_81 (h : Holds V0 s j) : (Host.dynamicUpdateSlice (V0 (Proc.devRef .tc main_v138_15)) (broadcastInDim S1x2x1536 ![1, 2] bcast_S2x1536_S1x2x1536_1_2 (mulf (addf (Host.dotGeneral dot_S2x1536x16_S2x16_S2x1536_2_1_1_n_0_0 none (res_main_while0b_v156 V0) (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_10)))))) (mulf (res_main_while0b_v149 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v149 V0)))))))) (fun k => (((![V0 (Proc.devRef .tc main_v138_12), constantI S_ 32 0#32, constantI S_ 32 0#32] : Fin 3 → (⟨S_, .i32⟩ : BufTy).Contents (Elt F))) k (Shape.Idx.first h_S_)).toInt) updateFits_S1024x2x1536_S1x2x1536 : (Proc.devRef .tc main_while0b_v173 : DevRef τ sig).ty.Contents (Elt F)) = Cert.ReferenceIdeal.Step.b81 j s := by
  unfold Cert.ReferenceIdeal.Step.b81
  rw [← al_78 h, ← al_79 h, ← al_80 h, h.f_15, h.n_12]
  try rfl
set_option maxRecDepth 8192 in
theorem al_82 (h : Holds V0 s j) : (broadcastInDim S1x2x1536 ![1, 2] bcast_S2x1536_S1x2x1536_1_2 (mulf (addf (Host.dotGeneral dot_S2x1536x16_S2x16_S2x1536_2_1_1_n_0_0 none (res_main_while0b_v165 V0) (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_11)))))) (mulf (res_main_while0b_v154 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v154 V0))))))) : (Proc.devRef .tc main_while0b_call20_v0 : DevRef τ sig).ty.Contents (Elt F)) = Cert.ReferenceIdeal.Step.b82 j s := by
  unfold Cert.ReferenceIdeal.Step.b82
  rw [← al_77 h]
  try rfl
set_option maxRecDepth 8192 in
theorem al_83 (h : Holds V0 s j) : (constantI S_ 32 0#32 : (Proc.devRef .tc main_while0b_call20_c : DevRef τ sig).ty.Contents (Elt F)) = Cert.ReferenceIdeal.Step.b83 j s := by
  unfold Cert.ReferenceIdeal.Step.b83
  rfl
set_option maxRecDepth 8192 in
theorem al_84 (h : Holds V0 s j) : (constantI S_ 32 0#32 : (Proc.devRef .tc main_while0b_call20_c_0 : DevRef τ sig).ty.Contents (Elt F)) = Cert.ReferenceIdeal.Step.b84 j s := by
  unfold Cert.ReferenceIdeal.Step.b84
  rfl
set_option maxRecDepth 8192 in
theorem al_85 (h : Holds V0 s j) : (Host.dynamicUpdateSlice (V0 (Proc.devRef .tc main_v138_16)) (broadcastInDim S1x2x1536 ![1, 2] bcast_S2x1536_S1x2x1536_1_2 (mulf (addf (Host.dotGeneral dot_S2x1536x16_S2x16_S2x1536_2_1_1_n_0_0 none (res_main_while0b_v165 V0) (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_11)))))) (mulf (res_main_while0b_v154 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v154 V0)))))))) (fun k => (((![V0 (Proc.devRef .tc main_v138_12), constantI S_ 32 0#32, constantI S_ 32 0#32] : Fin 3 → (⟨S_, .i32⟩ : BufTy).Contents (Elt F))) k (Shape.Idx.first h_S_)).toInt) updateFits_S1024x2x1536_S1x2x1536 : (Proc.devRef .tc main_while0b_v174 : DevRef τ sig).ty.Contents (Elt F)) = Cert.ReferenceIdeal.Step.b85 j s := by
  unfold Cert.ReferenceIdeal.Step.b85
  rw [← al_82 h, ← al_83 h, ← al_84 h, h.f_16, h.n_12]
  try rfl

/-! One trip's step of the carried values is `step`, field by field; a counter steps to the next number. -/

theorem step_13 (h : Holds V0 s j) : step_main_v138_13 V0 = (step j s).main_v138_13 := by
  unfold step_main_v138_13 Cert.ReferenceIdeal.Step.step
  show id (res_main_while0b_v156 V0) = _
  rw [al_45 h]
  try rfl
theorem step_14 (h : Holds V0 s j) : step_main_v138_14 V0 = (step j s).main_v138_14 := by
  unfold step_main_v138_14 Cert.ReferenceIdeal.Step.step
  show id (res_main_while0b_v165 V0) = _
  rw [al_62 h]
  try rfl
theorem step_15 (h : Holds V0 s j) : step_main_v138_15 V0 = (step j s).main_v138_15 := by
  unfold step_main_v138_15 Cert.ReferenceIdeal.Step.step
  show id (Host.dynamicUpdateSlice (V0 (Proc.devRef .tc main_v138_15)) (broadcastInDim S1x2x1536 ![1, 2] bcast_S2x1536_S1x2x1536_1_2 (mulf (addf (Host.dotGeneral dot_S2x1536x16_S2x16_S2x1536_2_1_1_n_0_0 none (res_main_while0b_v156 V0) (shapeCast S2x16 (Host.dynamicSlice S1x2x16 (V0 (Proc.devRef .tc main_v138_2)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_3)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_10)))))) (mulf (res_main_while0b_v149 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v149 V0)))))))) (fun k => (((![V0 (Proc.devRef .tc main_v138_12), constantI S_ 32 0#32, constantI S_ 32 0#32] : Fin 3 → (⟨S_, .i32⟩ : BufTy).Contents (Elt F))) k (Shape.Idx.first h_S_)).toInt) updateFits_S1024x2x1536_S1x2x1536) = _
  exact al_81 h

theorem step_16 (h : Holds V0 s j) : step_main_v138_16 V0 = (step j s).main_v138_16 := by
  unfold step_main_v138_16 Cert.ReferenceIdeal.Step.step
  show id (Host.dynamicUpdateSlice (V0 (Proc.devRef .tc main_v138_16)) (broadcastInDim S1x2x1536 ![1, 2] bcast_S2x1536_S1x2x1536_1_2 (mulf (addf (Host.dotGeneral dot_S2x1536x16_S2x16_S2x1536_2_1_1_n_0_0 none (res_main_while0b_v165 V0) (shapeCast S2x16 (Host.dynamicSlice S1x2x16 (V0 (Proc.devRef .tc main_v138_7)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x16_S1x2x16) shapeCasts_S1x2x16_S2x16)) (mulf (shapeCast S2x1536 (Host.dynamicSlice S1x2x1536 (V0 (Proc.devRef .tc main_v138_8)) (fun k => (((![V0 (Proc.devRef .tc main_v138_12), constantI S_ 32 0#32, constantI S_ 32 0#32] : Fin 3 → (⟨S_, .i32⟩ : BufTy).Contents (Elt F))) k (Shape.Idx.first h_S_)).toInt) sliceFits_S1024x2x1536_S1x2x1536) shapeCasts_S1x2x1536_S2x1536) (broadcastInDim S2x1536 ![0, 1] bcast_S1x1536_S2x1536_0_1 (broadcastInDim S1x1536 ![1] bcast_S1536_S1x1536_1 (V0 (Proc.devRef .tc main_v138_11)))))) (mulf (res_main_while0b_v154 V0) (Host.divf (broadcastInDim S2x1536 ![] bcast_S_S2x1536 (constant S_ .f32 0x3F800000#32)) (addf (broadcastInDim S2x1536 ![] bcast_S_S2x1536 (constant S_ .f32 0x3F800000#32)) (Host.exp (Host.negf (res_main_while0b_v154 V0)))))))) (fun k => (((![V0 (Proc.devRef .tc main_v138_12), constantI S_ 32 0#32, constantI S_ 32 0#32] : Fin 3 → (⟨S_, .i32⟩ : BufTy).Contents (Elt F))) k (Shape.Idx.first h_S_)).toInt) updateFits_S1024x2x1536_S1x2x1536) = _
  exact al_85 h

theorem step_12 (h : Holds V0 s j) : step_main_v138_12 V0 = constantI S_ 32 (BitVec.ofNat 32 (j + 1)) := by
  unfold step_main_v138_12
  rw [h.n_12]
  funext i
  show BitVec.ofNat 32 j + 1#32 = BitVec.ofNat 32 (j + 1)
  simp only [BitVec.ofNat_add]

set_option maxRecDepth 8192 in
theorem out_main_v144_holds (h : Holds V0 s j) {x_main_arg9 : (⟨S768x1536, .f32⟩ : BufTy).Contents (Elt F)} (h_main_arg9 : V0 (Proc.devRef .tc main_arg9) = x_main_arg9) {x_main_arg18 : (⟨S768x1536, .f32⟩ : BufTy).Contents (Elt F)} (h_main_arg18 : V0 (Proc.devRef .tc main_arg18) = x_main_arg18) : out_main_v144 V0 = Cert.ReferenceIdeal.Step.R_main_v144 s x_main_arg9 x_main_arg18 := by
  unfold out_main_v144 Cert.ReferenceIdeal.Step.R_main_v144
  rw [h.f_15, h.f_16, h_main_arg9, h_main_arg18]
  try rfl

/-- One trip keeps the valuation holding: `step` of the state, the same set-up values, the next number. -/
theorem holds_step (h : Holds V0 s j) : Holds (STEP V0) (step j s) (j + 1) where
  f_13 := (STEP_main_v138_13 V0).trans (step_13 h)
  f_14 := (STEP_main_v138_14 V0).trans (step_14 h)
  f_15 := (STEP_main_v138_15 V0).trans (step_15 h)
  f_16 := (STEP_main_v138_16 V0).trans (step_16 h)
  n_12 := (STEP_main_v138_12 V0).trans (step_12 h)
  f_0 := (STEP_main_v138_0 V0).trans h.f_0
  f_1 := (STEP_main_v138_1 V0).trans h.f_1
  f_2 := (STEP_main_v138_2 V0).trans h.f_2
  f_3 := (STEP_main_v138_3 V0).trans h.f_3
  f_4 := (STEP_main_v138_4 V0).trans h.f_4
  f_5 := (STEP_main_v138_5 V0).trans h.f_5
  f_6 := (STEP_main_v138_6 V0).trans h.f_6
  f_7 := (STEP_main_v138_7 V0).trans h.f_7
  f_8 := (STEP_main_v138_8 V0).trans h.f_8
  f_9 := (STEP_main_v138_9 V0).trans h.f_9
  f_10 := (STEP_main_v138_10 V0).trans h.f_10
  f_11 := (STEP_main_v138_11 V0).trans h.f_11

/-- The state the first trip starts from, of the memory the run starts from. -/
abbrev initState (m : (ℓ : Loc nD τ sig) → Buf (Elt F) ℓ) (c : Dev nD) : State F :=
  init (m ((c.tc : Thread nD τ).loc main_arg8)) (m ((c.tc : Thread nD τ).loc main_arg17)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

variable (m : (ℓ : Loc nD τ sig) → Buf (Elt F) ℓ) (c : Dev nD)

set_option maxRecDepth 65536 in
set_option maxHeartbeats 2200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The result by `step` iterated: every execution of the reference ends, with the result computed from state number 1024 of
    any sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v144) = Cert.ReferenceIdeal.Step.R_main_v144 (it c 1024) (m ((c.tc : Thread nD τ).loc main_arg9)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    have hk := holds_iter m c (it c) (h0 c) (hs c) 1024
    ⟨(h c).1.trans (out_main_v144_holds hk (iter_main_arg9 m c 1024) (iter_main_arg18 m c 1024)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2⟩) (Value.run m ρ)

/-- The reference runs, leaves its arguments unchanged, and uses no semaphore, so every counter stays zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0 :=
  (θ_run defs _ _).mono (fun r h => ⟨fun c => (h c).2, Idealize.ShloMosaic.sem_eq_zero_of_no_sems rfl r.2⟩) (run m ρ)

end Cert.ReferenceIdeal.TripRun

end
-- ==== Proof.Spec.lean ====
/-
  The mathematics of one direction of the layer, over the extended reals.

  A direction has a set of weights (`Weights`) and a sequence of rows `X : ℕ → Fin 768 → EReal`. Everything a token
  `l` contributes depends on the padded projected rows `P = pad W X` at `l … l + 3` and on the state of the recurrence
  before it, so the functions below take `P` (any sequence of rows) and `l`. `layer W X l o` is the value the layer
  gives row `l`, column `o`.
-/
module

public import Idealize.ShloMosaic.PureOps.Ideal
public import Idealize.ShloMosaic.Lib.Pointwise

@[expose] public section

noncomputable section

namespace Cert.Mamba

open Idealize.ShloMosaic

/-- The weights of one direction, each indexed by its input coordinate first. -/
structure Weights where
  inw : Fin 768 → Fin 3072 → EReal
  cw : Fin 4 → Fin 1536 → EReal
  cb : Fin 1536 → EReal
  xp : Fin 1536 → Fin 80 → EReal
  dtw : Fin 48 → Fin 1536 → EReal
  dtb : Fin 1536 → EReal
  al : Fin 16 → Fin 1536 → EReal
  dk : Fin 1536 → EReal
  ow : Fin 1536 → Fin 768 → EReal

/-- The first half of the input projection of a row. -/
def up (W : Weights) (x : Fin 768 → EReal) (d : Fin 1536) : EReal :=
  ∑ k : Fin 768, x k * W.inw k ⟨d.val, by omega⟩

/-- The second half of the input projection of a row: the gate. -/
def gate (W : Weights) (x : Fin 768 → EReal) (d : Fin 1536) : EReal :=
  ∑ k : Fin 768, x k * W.inw k ⟨1536 + d.val, by omega⟩

/-- The projected rows behind three rows of zeros. -/
def pad (W : Weights) (X : ℕ → Fin 768 → EReal) (r : ℕ) (d : Fin 1536) : EReal :=
  if r < 3 then 0 else up W (X (r - 3)) d

/-- The convolution at token `l`: four taps over the padded rows, and the bias. -/
def conv (W : Weights) (P : ℕ → Fin 1536 → EReal) (l : ℕ) (d : Fin 1536) : EReal :=
  P l d * W.cw 0 d + P (l + 1) d * W.cw 1 d + P (l + 2) d * W.cw 2 d + P (l + 3) d * W.cw 3 d + W.cb d

/-- The activated convolution. -/
def act (W : Weights) (P : ℕ → Fin 1536 → EReal) (l : ℕ) (d : Fin 1536) : EReal :=
  conv W P l d * Ideal.logistic (conv W P l d)

/-- The projection that gives the step size's factors (columns 0 … 47), `B` (48 … 63) and `C` (64 … 79). -/
def mix (W : Weights) (P : ℕ → Fin 1536 → EReal) (l : ℕ) (j : Fin 80) : EReal :=
  ∑ d : Fin 1536, act W P l d * W.xp d j

/-- The step size before the softplus. -/
def pre (W : Weights) (P : ℕ → Fin 1536 → EReal) (l : ℕ) (d : Fin 1536) : EReal :=
  (∑ r : Fin 48, mix W P l ⟨r.val, by omega⟩ * W.dtw r d) + W.dtb d

/-- The softplus `max x 0 + log (1 + exp (-|x|))`. -/
def softplus (x : EReal) : EReal := max x 0 + Ideal.log1p (Ideal.exp (-(max x (-x))))

/-- The step size. -/
def delta (W : Weights) (P : ℕ → Fin 1536 → EReal) (l : ℕ) (d : Fin 1536) : EReal := softplus (pre W P l d)

/-- The factor token `l` applies to the state. -/
def decay (W : Weights) (P : ℕ → Fin 1536 → EReal) (l : ℕ) (n : Fin 16) (d : Fin 1536) : EReal :=
  Ideal.exp (delta W P l d * -(Ideal.exp (W.al n d)))

/-- What token `l` adds to the state. -/
def feed (W : Weights) (P : ℕ → Fin 1536 → EReal) (l : ℕ) (n : Fin 16) (d : Fin 1536) : EReal :=
  delta W P l d * act W P l d * mix W P l ⟨48 + n.val, by omega⟩

/-- The recurrence `h ↦ a k * h + g k`, `k` steps from `h₀`. -/
def scan (a g : ℕ → Fin 16 → Fin 1536 → EReal) (h₀ : Fin 16 → Fin 1536 → EReal) : ℕ → Fin 16 → Fin 1536 → EReal
  | 0 => h₀
  | k + 1 => fun n d => a k n d * scan a g h₀ k n d + g k n d

/-- The state before token `l`. -/
def state (W : Weights) (P : ℕ → Fin 1536 → EReal) (l : ℕ) : Fin 16 → Fin 1536 → EReal :=
  scan (decay W P) (feed W P) (fun _ _ => 0) l

/-- One more token. -/
theorem state_succ (W : Weights) (P : ℕ → Fin 1536 → EReal) (l : ℕ) (n : Fin 16) (d : Fin 1536) :
    state W P (l + 1) n d = decay W P l n d * state W P l n d + feed W P l n d := rfl

/-- A token's read-out of a state `h`: the state against `C`, and the skip connection. -/
def readout (W : Weights) (P : ℕ → Fin 1536 → EReal) (h : Fin 16 → Fin 1536 → EReal) (l : ℕ) (d : Fin 1536) : EReal :=
  (∑ n : Fin 16, h n d * mix W P l ⟨64 + n.val, by omega⟩) + act W P l d * W.dk d

/-- The gated read-out through the output projection. -/
def outp (W : Weights) (z y : Fin 1536 → EReal) (o : Fin 768) : EReal :=
  ∑ d : Fin 1536, y d * (z d * Ideal.logistic (z d)) * W.ow d o

/-- The layer's value at row `l`, column `o`. -/
def layer (W : Weights) (X : ℕ → Fin 768 → EReal) (l : ℕ) (o : Fin 768) : EReal :=
  outp W (gate W (X l)) (readout W (pad W X) (state W (pad W X) (l + 1)) l) o

/-- The weights the module's argument arrays hold, each array with its output coordinate first. -/
def Weights.ofArrays (inw : (⟨2, ![3072, 768]⟩ : Shape).Idx → EReal) (cw : (⟨2, ![1536, 4]⟩ : Shape).Idx → EReal)
    (cb : (⟨1, ![1536]⟩ : Shape).Idx → EReal) (xp : (⟨2, ![80, 1536]⟩ : Shape).Idx → EReal)
    (dtw : (⟨2, ![1536, 48]⟩ : Shape).Idx → EReal) (dtb : (⟨1, ![1536]⟩ : Shape).Idx → EReal)
    (al : (⟨2, ![1536, 16]⟩ : Shape).Idx → EReal) (dk : (⟨1, ![1536]⟩ : Shape).Idx → EReal)
    (ow : (⟨2, ![768, 1536]⟩ : Shape).Idx → EReal) : Weights where
  inw k e := inw (ix2 e k)
  cw k d := cw (ix2 d k)
  cb d := cb (ix1 d)
  xp d j := xp (ix2 j d)
  dtw r d := dtw (ix2 d r)
  dtb d := dtb (ix1 d)
  al n d := al (ix2 d n)
  dk d := dk (ix1 d)
  ow d o := ow (ix2 o d)

/-- Batch `b`'s rows, first to last; rows past the end, which nothing reads, are zero. -/
def rows (x : (⟨3, ![2, 1024, 768]⟩ : Shape).Idx → EReal) (b : Fin 2) (l : ℕ) (k : Fin 768) : EReal :=
  if h : l < 1024 then x (ix3 b ⟨l, h⟩ k) else 0

/-- Batch `b`'s rows, last to first. -/
def rowsRev (x : (⟨3, ![2, 1024, 768]⟩ : Shape).Idx → EReal) (b : Fin 2) (l : ℕ) (k : Fin 768) : EReal :=
  if h : l < 1024 then x (ix3 b ⟨1023 - l, by omega⟩ k) else 0

theorem rows_val (x : (⟨3, ![2, 1024, 768]⟩ : Shape).Idx → EReal) (b : Fin 2) (l : Fin 1024) (k : Fin 768) :
    rows x b l.val k = x (ix3 b l k) := by
  unfold rows
  rw [dif_pos l.isLt]

end Cert.Mamba

end
-- ==== Proof.Payloads.lean ====
/-
  The values the kernel's body computes, read at an index and over the extended reals, as the functions of
  Proof/Spec.lean: the blocks hold the weights `W` (`Holds`), the loads of the padded buffer hold rows of `P` from
  row `s` on.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Value

open Idealize.ShloMosaic Cert.KernelIdeal Cert.KernelIdeal.Gen Cert.Mamba

/-- The windows' blocks hold the weights `W`. -/
structure Holds (W : Weights) (x1 : Vec Ideal S1x768x3072 .bf16) (x2 : Vec Ideal S1x4x1536 .f32)
    (x3 : Vec Ideal S1x1x1536 .f32) (x4 : Vec Ideal S1x1536x80 .bf16) (x5 : Vec Ideal S1x48x1536 .bf16)
    (x6 : Vec Ideal S1x1x1536 .f32) (x7 : Vec Ideal S1x16x1536 .f32) (x8 : Vec Ideal S1x1x1536 .f32)
    (x9 : Vec Ideal S1x1536x768 .bf16) : Prop where
  inw : ∀ k e, x1 (ix3 0 k e) = W.inw k e
  cw : ∀ k e, x2 (ix3 0 k e) = W.cw k e
  cb : ∀ e, x3 (ix3 0 0 e) = W.cb e
  xp : ∀ k e, x4 (ix3 0 k e) = W.xp k e
  dtw : ∀ k e, x5 (ix3 0 k e) = W.dtw k e
  dtb : ∀ e, x6 (ix3 0 0 e) = W.dtb e
  al : ∀ k e, x7 (ix3 0 k e) = W.al k e
  dk : ∀ e, x8 (ix3 0 0 e) = W.dk e
  ow : ∀ k e, x9 (ix3 0 k e) = W.ow k e

variable {W : Weights}

/-- The projected rows. -/
theorem pay6_at (x0 : Vec Ideal S1x128x768 .f32) (x1 : Vec Ideal S1x768x3072 .bf16)
    (h1 : ∀ k e, x1 (ix3 0 k e) = W.inw k e) (r : Fin 128) (d : Fin 1536) :
    k0_pay6 x0 x1 (ix2 r d) = up W (fun k => x0 (ix3 0 r k)) d := by
  pointwise [k0_pay6, k0_pay4, up]
  simp only [h1]

/-- The gates. -/
theorem pay5_at (x0 : Vec Ideal S1x128x768 .f32) (x1 : Vec Ideal S1x768x3072 .bf16)
    (h1 : ∀ k e, x1 (ix3 0 k e) = W.inw k e) (r : Fin 128) (d : Fin 1536) :
    k0_pay5 x0 x1 (ix2 r d) = gate W (fun k => x0 (ix3 0 r k)) d := by
  pointwise [k0_pay5, k0_pay4, gate]
  simp only [h1]

/-- The activated convolution. -/
theorem pay10_at (P : ℕ → Fin 1536 → EReal) (s : ℕ) (v14 v19 v25 v31 : Vec Ideal S128x1536 .f32)
    (w0 w1 w2 w3 b : Vec Ideal S1x1x1536 .f32)
    (hv14 : ∀ (r : Fin 128) d, v14 (ix2 r d) = P (s + r.val) d)
    (hv19 : ∀ (r : Fin 128) d, v19 (ix2 r d) = P (s + r.val + 1) d)
    (hv25 : ∀ (r : Fin 128) d, v25 (ix2 r d) = P (s + r.val + 2) d)
    (hv31 : ∀ (r : Fin 128) d, v31 (ix2 r d) = P (s + r.val + 3) d)
    (hw0 : ∀ d, w0 (ix3 0 0 d) = W.cw 0 d) (hw1 : ∀ d, w1 (ix3 0 0 d) = W.cw 1 d)
    (hw2 : ∀ d, w2 (ix3 0 0 d) = W.cw 2 d) (hw3 : ∀ d, w3 (ix3 0 0 d) = W.cw 3 d)
    (hb : ∀ d, b (ix3 0 0 d) = W.cb d) (r : Fin 128) (d : Fin 1536) :
    k0_pay10 (k0_pay7 v14 w0 v19 w1) (k0_pay8 v25 w2) v31 w3 b (ix2 r d) = act W P (s + r.val) d := by
  pointwise [k0_pay10, k0_pay7, k0_pay8]
  simp only [hv14, hv19, hv25, hv31, hw0, hw1, hw2, hw3, hb]
  rfl

section Mixed

variable (P : ℕ → Fin 1536 → EReal) (s : ℕ) (v24 v29 : FVec Ideal S128x1536 .f32) (v31 : Vec Ideal S128x1536 .f32)
    (w3 b : Vec Ideal S1x1x1536 .f32) (x4 : Vec Ideal S1x1536x80 .bf16)
    (hu : ∀ (r : Fin 128) d, k0_pay10 v24 v29 v31 w3 b (ix2 r d) = act W P (s + r.val) d)
    (h4 : ∀ k e, x4 (ix3 0 k e) = W.xp k e)

include hu h4

/-- The second projection, of any rows that hold the activated convolution. -/
theorem pay11_at (r : Fin 128) (j : Fin 80) : k0_pay11 v24 v29 v31 w3 b x4 (ix2 r j) = mix W P (s + r.val) j := by
  pointwise [k0_pay11]
  simp only [hu, h4]
  rfl

/-- Its columns 48 … 63. -/
theorem pay12_at (r : Fin 128) (n : Fin 16) :
    k0_pay12 v24 v29 v31 w3 b x4 (ix2 r n) = mix W P (s + r.val) ⟨48 + n.val, by omega⟩ := by
  pointwise [k0_pay12]
  exact pay11_at P s v24 v29 v31 w3 b x4 hu h4 r _

/-- Its columns 64 … 79. -/
theorem pay13_at (r : Fin 128) (n : Fin 16) :
    k0_pay13 v24 v29 v31 w3 b x4 (ix2 r n) = mix W P (s + r.val) ⟨64 + n.val, by omega⟩ := by
  pointwise [k0_pay13]
  exact pay11_at P s v24 v29 v31 w3 b x4 hu h4 r _

variable (x5 : Vec Ideal S1x48x1536 .bf16) (x6 : Vec Ideal S1x1x1536 .f32)
    (h5 : ∀ k e, x5 (ix3 0 k e) = W.dtw k e) (h6 : ∀ e, x6 (ix3 0 0 e) = W.dtb e)

include h5 h6

/-- The step size before the softplus. -/
theorem pay14_at (r : Fin 128) (d : Fin 1536) :
    k0_pay14 v24 v29 v31 w3 b x4 x5 x6 (ix2 r d) = pre W P (s + r.val) d := by
  pointwise [k0_pay14]
  simp only [pay11_at P s v24 v29 v31 w3 b x4 hu h4, h5, h6]
  rfl

/-- The step size. -/
theorem pay17_at (r : Fin 128) (d : Fin 1536) :
    k0_pay17 (k0_pay15 v24 v29 v31 w3 b x4 x5 x6) (k0_pay16 v24 v29 v31 w3 b x4 x5 x6) (ix2 r d)
      = delta W P (s + r.val) d := by
  pointwise [k0_pay17, k0_pay15, k0_pay16]
  simp only [pay14_at P s v24 v29 v31 w3 b x4 hu h4 x5 x6 h5 h6]
  rw [zero_sub]
  rfl

end Mixed

/-- The factors of the recurrence, from vectors that give the step size. -/
theorem pay18_at (P : ℕ → Fin 1536 → EReal) (s : ℕ) (v63 v64 : FVec Ideal S128x1536 .f32) (x7 : Vec Ideal S1x16x1536 .f32)
    (hd : ∀ (r : Fin 128) d, k0_pay17 v63 v64 (ix2 r d) = delta W P (s + r.val) d)
    (h7 : ∀ k e, x7 (ix3 0 k e) = W.al k e) (r : Fin 128) (n : Fin 16) (d : Fin 1536) :
    k0_pay18 v63 v64 x7 (ix3 r n d) = decay W P (s + r.val) n d := by
  pointwise [k0_pay18]
  simp only [hd, h7, zero_sub]
  rfl

/-- The terms of the recurrence. -/
theorem pay19_at (P : ℕ → Fin 1536 → EReal) (s : ℕ) (v46 : FVec Ideal S128x1536 .f32) (v52 : FVec Ideal S128x16 .f32)
    (v63 v64 : FVec Ideal S128x1536 .f32)
    (hu : ∀ (r : Fin 128) d, v46 (ix2 r d) = act W P (s + r.val) d)
    (hB : ∀ (r : Fin 128) (n : Fin 16), v52 (ix2 r n) = mix W P (s + r.val) ⟨48 + n.val, by omega⟩)
    (hd : ∀ (r : Fin 128) d, k0_pay17 v63 v64 (ix2 r d) = delta W P (s + r.val) d)
    (r : Fin 128) (n : Fin 16) (d : Fin 1536) :
    k0_pay19 v46 v52 v63 v64 (ix3 r n d) = feed W P (s + r.val) n d := by
  pointwise [k0_pay19]
  simp only [hd, hu, hB]
  rfl

/-- One trip of the recurrence. -/
theorem pay20_at (h : Vec Ideal S16x1536 .f32) (a g : Vec Ideal S1x16x1536 .f32) (n : Fin 16) (d : Fin 1536) :
    k0_pay20 h a g (ix2 n d) = a (ix3 0 n d) * h (ix2 n d) + g (ix3 0 n d) := by
  pointwise [k0_pay20]

/-- What a trip stores. -/
theorem pay21_at (h : Vec Ideal S16x1536 .f32) (a g : Vec Ideal S1x16x1536 .f32) (z : Fin 1) (n : Fin 16) (d : Fin 1536) :
    k0_pay21 h a g (ix3 z n d) = a (ix3 0 n d) * h (ix2 n d) + g (ix3 0 n d) := by
  pointwise [k0_pay21, k0_pay20]

/-- The block's result rows. -/
theorem pay1_at (P : ℕ → Fin 1536 → EReal) (s : ℕ) (z : ℕ → Fin 1536 → EReal) (h : ℕ → Fin 16 → Fin 1536 → EReal)
    (v10 v46 : FVec Ideal S128x1536 .f32) (v53 : FVec Ideal S128x16 .f32) (v99 : Vec Ideal S128x16x1536 .f32)
    (x8 : Vec Ideal S1x1x1536 .f32) (x9 : Vec Ideal S1x1536x768 .bf16)
    (hz : ∀ (r : Fin 128) d, v10 (ix2 r d) = z (s + r.val) d)
    (hu : ∀ (r : Fin 128) d, v46 (ix2 r d) = act W P (s + r.val) d)
    (hC : ∀ (r : Fin 128) (n : Fin 16), v53 (ix2 r n) = mix W P (s + r.val) ⟨64 + n.val, by omega⟩)
    (hh : ∀ (r : Fin 128) n d, v99 (ix3 r n d) = h (s + r.val) n d)
    (h8 : ∀ e, x8 (ix3 0 0 e) = W.dk e) (h9 : ∀ k e, x9 (ix3 0 k e) = W.ow k e) (q : Fin 1) (r : Fin 128) (o : Fin 768) :
    k0_pay1 v10 v46 v53 v99 x8 x9 (ix3 q r o)
      = outp W (z (s + r.val)) (readout W P (h (s + r.val)) (s + r.val)) o := by
  pointwise [k0_pay1]
  simp only [hz, hu, hC, hh, h8, h9]
  rfl

end Cert.KernelIdeal.Value

end
-- ==== Proof.ChunkLoop.lean ====
/-
  The kernel's loop over a chunk's tokens, over the extended reals: what each trip leaves in the state and in the
  buffer of states.
-/
module

public import proofs.«01_k».proof.Proof.Payloads
public import proofs.«01_k».proof.Proof.Gen.KernelIdeal.Loops
public import Idealize.ShloMosaic.Lib.WritesUnit
public import Idealize.ShloMosaic.Lib.Pipeline.ValueKit.Tiles

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Mamba

variable {W : Weights}

/-- Trip `k` touches row `k`. -/
theorem off_eq (k : Fin k0_t1_loop.trips) : k0_off1 k = ![k.val, 0, 0] := by
  have hk : k.val < 128 := Nat.lt_of_lt_of_le k.isLt k0_t1_abs.2.1
  unfold k0_off1
  funext a
  fin_cases a
  · show (Scalar.indexCast (Scf.iv (0#32) (1#32) k.val) : BitVec 32).toNat = k.val
    show ((0#32 : BitVec 32) + BitVec.ofNat 32 k.val * 1#32).toNat = k.val
    simp only [BitVec.zero_add, BitVec.mul_one, BitVec.toNat_ofNat]
    omega
  · rfl
  · rfl

/-- The loop has 128 trips. -/
theorem trips_eq : k0_t1_loop.trips = 128 := by
  decide

/-- A load of row `k`. -/
theorem row_load (v : View sig .tc .vmem S128x16x1536 .f32) (f : v.ty.Contents (Elt Ideal)) (k : Fin k0_t1_loop.trips)
    (k' : Fin 128) (hk : k'.val = k.val) (z : Fin 1) (n : Fin 16) (d : Fin 1536) :
    View.readAt (Elt Ideal) v (Rect.unit (s := S128x16x1536) (k0_off1 k) S1x16x1536.size (k0_off1_inb k)).toLoadRect f (ix3 z n d)
      = v.read (Elt Ideal) f (ix3 k' n d) := by
  refine View.ld_unit_apply_of (v.read (Elt Ideal) f) (k0_off1 k) S1x16x1536.size (k0_off1_inb k) (ix3 z n d)
    (ix3 k' n d) fun a => ?_
  refine Eq.trans ?_ (congrArg (fun o : Fin 3 → ℕ => o a + ((ix3 z n d : S1x16x1536.Idx) a).val) (off_eq k)).symm
  obtain rfl : z = 0 := Subsingleton.elim _ _
  fin_cases a
  · exact hk
  · exact (Nat.zero_add _).symm
  · exact (Nat.zero_add _).symm

/-- The loop, trip by trip: the state before trip `k` is the recurrence's after `k` tokens, and the rows of the buffer
already passed hold the states after their tokens, the others the terms they held. -/
theorem loop_at (𝒱 : Variants) (bd : Option 𝒱.V) (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole) (v46 : FVec Ideal S128x1536 .f32)
    (v52 : FVec Ideal S128x16 .f32) (v63 v64 : FVec Ideal S128x1536 .f32)
    (X : BufTy.Contents (Elt Ideal) arg14.view.ty) (G : BufTy.Contents (Elt Ideal) arg15.view.ty)
    (init : Vec Ideal S16x1536 .f32) (P : ℕ → Fin 1536 → EReal) (s : ℕ)
    (hX : ∀ (r : Fin 128) n d, arg14.view.read (Elt Ideal) X (ix3 r n d) = decay W P (s + r.val) n d)
    (hG : ∀ (r : Fin 128) n d, arg15.view.read (Elt Ideal) G (ix3 r n d) = feed W P (s + r.val) n d)
    (hi : ∀ n d, init (ix2 n d) = state W P s n d) (k : ℕ) (hk : k ≤ 128) :
    (∀ n d, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v46 v52 v63 v64 X G init k).1 (ix2 n d) = state W P (s + k) n d)
      ∧ ∀ (r : Fin 128) n d,
        arg15.view.read (Elt Ideal) (arg15.view.writes (Elt Ideal) G
          (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v46 v52 v63 v64 X G init k).2) (ix3 r n d)
          = if r.val < k then state W P (s + r.val + 1) n d else feed W P (s + r.val) n d := by
  induction k with
  | zero =>
    refine ⟨fun n d => hi n d, fun r n d => ?_⟩
    rw [if_neg (Nat.not_lt_zero _)]
    exact hG r n d
  | succ k ih =>
    obtain ⟨ih1, ih2⟩ := ih (by omega)
    have hkt : k < k0_t1_loop.trips := by rw [trips_eq]; omega
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v46 v52 v63 v64 X G init ⟨k, hkt⟩
    dsimp only at hs
    rw [hs]
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v46 v52 v63 v64 X G init k = S at ih1 ih2
    have hg : ∀ n d, arg15.view.read (Elt Ideal) (arg15.view.writes (Elt Ideal) G S.2) (ix3 (⟨k, by omega⟩ : Fin 128) n d)
        = feed W P (s + k) n d := fun n d => by
      rw [ih2, if_neg (by show ¬ k < k; omega)]
    unfold tripR_k0_t1 tripL_k0_t1 trip_k0_t1
    dsimp only
    refine ⟨fun n d => ?_, fun r n d => ?_⟩
    · refine (pay20_at _ _ _ n d).trans ?_
      refine (congrArg₂ (· + ·) (congrArg₂ (· * ·)
        ((row_load arg14.view X ⟨k, hkt⟩ ⟨k, by omega⟩ rfl 0 n d).trans (hX _ n d)) (ih1 n d))
        ((row_load arg15.view _ ⟨k, hkt⟩ ⟨k, by omega⟩ rfl 0 n d).trans (hg n d))).trans ?_
      exact (state_succ W P (s + k) n d).symm
    · rw [List.singleton_append]
      by_cases hr : r.val = k
      · refine (View.read_writes_cons_unit_of_mem arg15.view G (k0_off1_inb ⟨k, hkt⟩) _ S.2 (ix3 r n d)
          (ix3 (0 : Fin 1) n d) (off_eq ⟨k, hkt⟩) (fun a => ?_)).trans ?_
        · fin_cases a
          · exact hr
          · exact (Nat.zero_add _).symm
          · exact (Nat.zero_add _).symm
        · rw [if_pos (by omega), hr]
          refine (pay21_at _ _ _ 0 n d).trans ?_
          refine (congrArg₂ (· + ·) (congrArg₂ (· * ·)
            ((row_load arg14.view X ⟨k, hkt⟩ ⟨k, by omega⟩ rfl 0 n d).trans (hX _ n d)) (ih1 n d))
            ((row_load arg15.view _ ⟨k, hkt⟩ ⟨k, by omega⟩ rfl 0 n d).trans (hg n d))).trans ?_
          exact (state_succ W P (s + k) n d).symm
      · refine (View.read_writes_cons_unit_of_not_mem arg15.view G (k0_off1_inb ⟨k, hkt⟩) _ S.2 (ix3 r n d)
          (off_eq ⟨k, hkt⟩) (0 : Fin 3) ?_).trans ?_
        · show r.val < k ∨ k + 1 ≤ r.val
          omega
        · rw [ih2]
          by_cases h : r.val < k
          · rw [if_pos h, if_pos (by omega)]
          · rw [if_neg h, if_neg (by omega)]

end Cert.KernelIdeal.Value

end
-- ==== Proof.ChunkCore.lean ====
/-
  One chunk's recurrence and its result rows, over the extended reals, from what the chunk computed before its loop.
-/
module

public import proofs.«01_k».proof.Proof.ChunkLoop

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Mamba

variable {W : Weights}

/-- A buffer of states stored whole, read at an index. -/
theorem stored (v : View sig .tc .vmem S128x16x1536 .f32) (f : v.ty.Contents (Elt Ideal))
    (w : Vec Ideal S128x16x1536 .f32) (r : Fin 128) (n : Fin 16) (d : Fin 1536) :
    v.read (Elt Ideal) (v.writes (Elt Ideal) f [⟨Rect.unit (s := S128x16x1536) ![0, 0, 0] S128x16x1536.size
      inb_S128x16x1536_S128x16x1536_0_0_0, w⟩]) (ix3 r n d) = w (ix3 r n d) := by
  refine View.read_writes_cons_unit_of_mem v f inb_S128x16x1536_S128x16x1536_0_0_0 w [] (ix3 r n d) (ix3 r n d)
    (off' := ![0, 0, 0]) rfl fun a => ?_
  fin_cases a
  · exact (Nat.zero_add _).symm
  · exact (Nat.zero_add _).symm
  · exact (Nat.zero_add _).symm

section Core

variable (𝒱 : Variants) (bd : Option 𝒱.V) (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole) (P : ℕ → Fin 1536 → EReal) (s : ℕ)
    (v24 v29 : FVec Ideal S128x1536 .f32) (v31 : Vec Ideal S128x1536 .f32) (w3 b : Vec Ideal S1x1x1536 .f32)
    (x4 : Vec Ideal S1x1536x80 .bf16) (x5 : Vec Ideal S1x48x1536 .bf16) (x6 : Vec Ideal S1x1x1536 .f32)
    (x7 : Vec Ideal S1x16x1536 .f32) (init : Vec Ideal S16x1536 .f32)
    (hu : ∀ (r : Fin 128) d, k0_pay10 v24 v29 v31 w3 b (ix2 r d) = act W P (s + r.val) d)
    (h4 : ∀ k e, x4 (ix3 0 k e) = W.xp k e) (h5 : ∀ k e, x5 (ix3 0 k e) = W.dtw k e)
    (h6 : ∀ e, x6 (ix3 0 0 e) = W.dtb e) (h7 : ∀ k e, x7 (ix3 0 k e) = W.al k e)
    (hi : ∀ n d, init (ix2 n d) = state W P s n d) (N : ℕ) (hN : N = 128)

include hu h4 h5 h6 h7 hi hN

/-- The loop's state after the chunk, and the buffer of states it leaves. -/
theorem core_loop :
    (∀ n d, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 v24 v29 v31 w3 b) (k0_pay12 v24 v29 v31 w3 b x4) (k0_pay15 v24 v29 v31 w3 b x4 x5 x6) (k0_pay16 v24 v29 v31 w3 b x4 x5 x6) (arg14.view.writes (Elt Ideal) arg14.view.junk [⟨Rect.unit (s := S128x16x1536) ![0, 0, 0] S128x16x1536.size inb_S128x16x1536_S128x16x1536_0_0_0, k0_pay18 (k0_pay15 v24 v29 v31 w3 b x4 x5 x6) (k0_pay16 v24 v29 v31 w3 b x4 x5 x6) x7⟩]) (arg15.view.writes (Elt Ideal) arg15.view.junk [⟨Rect.unit (s := S128x16x1536) ![0, 0, 0] S128x16x1536.size inb_S128x16x1536_S128x16x1536_0_0_0, k0_pay19 (k0_pay10 v24 v29 v31 w3 b) (k0_pay12 v24 v29 v31 w3 b x4) (k0_pay15 v24 v29 v31 w3 b x4 x5 x6) (k0_pay16 v24 v29 v31 w3 b x4 x5 x6)⟩]) init N).1 (ix2 n d) = state W P (s + 128) n d)
      ∧ ∀ (r : Fin 128) n d,
        arg15.view.readCov ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 v24 v29 v31 w3 b) (k0_pay12 v24 v29 v31 w3 b x4) (k0_pay15 v24 v29 v31 w3 b x4 x5 x6) (k0_pay16 v24 v29 v31 w3 b x4 x5 x6) (arg14.view.writes (Elt Ideal) arg14.view.junk [⟨Rect.unit (s := S128x16x1536) ![0, 0, 0] S128x16x1536.size inb_S128x16x1536_S128x16x1536_0_0_0, k0_pay18 (k0_pay15 v24 v29 v31 w3 b x4 x5 x6) (k0_pay16 v24 v29 v31 w3 b x4 x5 x6) x7⟩]) (arg15.view.writes (Elt Ideal) arg15.view.junk [⟨Rect.unit (s := S128x16x1536) ![0, 0, 0] S128x16x1536.size inb_S128x16x1536_S128x16x1536_0_0_0, k0_pay19 (k0_pay10 v24 v29 v31 w3 b) (k0_pay12 v24 v29 v31 w3 b x4) (k0_pay15 v24 v29 v31 w3 b x4 x5 x6) (k0_pay16 v24 v29 v31 w3 b x4 x5 x6)⟩]) init N).2 ++ [⟨Rect.unit (s := S128x16x1536) ![0, 0, 0] S128x16x1536.size inb_S128x16x1536_S128x16x1536_0_0_0, k0_pay19 (k0_pay10 v24 v29 v31 w3 b) (k0_pay12 v24 v29 v31 w3 b x4) (k0_pay15 v24 v29 v31 w3 b x4 x5 x6) (k0_pay16 v24 v29 v31 w3 b x4 x5 x6)⟩])
          (Rect.unit (s := S128x16x1536) ![0, 0, 0] S128x16x1536.size inb_S128x16x1536_S128x16x1536_0_0_0).toLoadRect (ix3 r n d)
          = state W P (s + r.val + 1) n d := by
  have hd := fun (r : Fin 128) d => pay17_at (W := W) P s v24 v29 v31 w3 b x4 hu h4 x5 x6 h5 h6 r d
  have hB := fun (r : Fin 128) n => pay12_at (W := W) P s v24 v29 v31 w3 b x4 hu h4 r n
  obtain ⟨e1, e2⟩ := loop_at (W := W) 𝒱 bd c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 v24 v29 v31 w3 b) (k0_pay12 v24 v29 v31 w3 b x4)
    (k0_pay15 v24 v29 v31 w3 b x4 x5 x6) (k0_pay16 v24 v29 v31 w3 b x4 x5 x6) _ _ init P s
    (fun r n d => (stored arg14.view arg14.view.junk _ r n d).trans (pay18_at P s _ _ x7 hd h7 r n d))
    (fun r n d => (stored arg15.view arg15.view.junk _ r n d).trans (pay19_at P s _ _ _ _ hu hB hd r n d))
    hi N (le_of_eq hN)
  refine ⟨fun n d => ?_, fun r n d => ?_⟩
  · rw [e1 n d, hN]
  · unfold View.readCov
    rw [View.writes_append]
    refine (View.ld_unit_apply_of (arg15.view.read (Elt Ideal) _) ![0, 0, 0] S128x16x1536.size
      inb_S128x16x1536_S128x16x1536_0_0_0 (ix3 r n d) (ix3 r n d) fun a => ?_).trans ?_
    · fin_cases a
      · exact (Nat.zero_add _).symm
      · exact (Nat.zero_add _).symm
      · exact (Nat.zero_add _).symm
    · rw [e2 r n d, if_pos (by omega)]

/-- The chunk's result rows. -/
theorem core_out (z : ℕ → Fin 1536 → EReal) (v10 : FVec Ideal S128x1536 .f32)
    (hz : ∀ (r : Fin 128) d, v10 (ix2 r d) = z (s + r.val) d)
    (x8 : Vec Ideal S1x1x1536 .f32) (x9 : Vec Ideal S1x1536x768 .bf16)
    (h8 : ∀ e, x8 (ix3 0 0 e) = W.dk e) (h9 : ∀ k e, x9 (ix3 0 k e) = W.ow k e) (q : Fin 1) (r : Fin 128) (o : Fin 768) :
    k0_pay1 v10 (k0_pay10 v24 v29 v31 w3 b) (k0_pay13 v24 v29 v31 w3 b x4)
      (arg15.view.readCov ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 v24 v29 v31 w3 b) (k0_pay12 v24 v29 v31 w3 b x4) (k0_pay15 v24 v29 v31 w3 b x4 x5 x6) (k0_pay16 v24 v29 v31 w3 b x4 x5 x6) (arg14.view.writes (Elt Ideal) arg14.view.junk [⟨Rect.unit (s := S128x16x1536) ![0, 0, 0] S128x16x1536.size inb_S128x16x1536_S128x16x1536_0_0_0, k0_pay18 (k0_pay15 v24 v29 v31 w3 b x4 x5 x6) (k0_pay16 v24 v29 v31 w3 b x4 x5 x6) x7⟩]) (arg15.view.writes (Elt Ideal) arg15.view.junk [⟨Rect.unit (s := S128x16x1536) ![0, 0, 0] S128x16x1536.size inb_S128x16x1536_S128x16x1536_0_0_0, k0_pay19 (k0_pay10 v24 v29 v31 w3 b) (k0_pay12 v24 v29 v31 w3 b x4) (k0_pay15 v24 v29 v31 w3 b x4 x5 x6) (k0_pay16 v24 v29 v31 w3 b x4 x5 x6)⟩]) init N).2 ++ [⟨Rect.unit (s := S128x16x1536) ![0, 0, 0] S128x16x1536.size inb_S128x16x1536_S128x16x1536_0_0_0, k0_pay19 (k0_pay10 v24 v29 v31 w3 b) (k0_pay12 v24 v29 v31 w3 b x4) (k0_pay15 v24 v29 v31 w3 b x4 x5 x6) (k0_pay16 v24 v29 v31 w3 b x4 x5 x6)⟩])
          (Rect.unit (s := S128x16x1536) ![0, 0, 0] S128x16x1536.size inb_S128x16x1536_S128x16x1536_0_0_0).toLoadRect)
      x8 x9 (ix3 q r o)
      = outp W (z (s + r.val)) (readout W P (state W P (s + r.val + 1)) (s + r.val)) o := by
  exact pay1_at P s z (fun l => state W P (l + 1)) v10 _ _ _ x8 x9 hz hu
    (fun r n => pay13_at (W := W) P s v24 v29 v31 w3 b x4 hu h4 r n)
    (core_loop 𝒱 bd c i arg2 harg2 arg3 harg3 arg4 harg4 arg5 harg5 arg6 harg6 arg7 harg7 arg8 harg8 arg9 harg9 arg10 harg10 arg11 harg11 arg12 harg12 arg13 harg13 arg14 harg14 arg15 harg15 arg16 harg16 P s v24 v29 v31 w3 b x4 x5 x6 x7 init hu h4 h5 h6 h7 hi N hN).2 h8 h9 q r o

end Core

end Cert.KernelIdeal.Value

end
-- ==== Proof.ChunkValue.lean ====
/-
  What one chunk leaves, over the extended reals: its rows of the layer, the projected rows the next chunk's convolution
  begins with, and the state after its last token; at a sequence's first chunk, and at a later one from what the chunk
  before left.
-/
module

public import proofs.«01_k».proof.Proof.ChunkCore
public import proofs.«01_k».proof.Proof.KernelIdealFrame

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Body Cert.Mamba

variable {W : Weights}

/-! ## Loads of the windows -/

/-- A window loaded whole holds its block. -/
theorem load_whole {sg : RefSig} {S : Shape} {e : EltTy} (m : Memref sg .tc .vmem S e) (hm : m.IsWhole)
    (x : Vec Ideal S e) {off : Fin S.rank → ℕ} (ho : off = fun _ => 0) (inb : ∀ a, off a + S.size a ≤ S.size a) :
    View.readAt (Elt Ideal) m.view (Rect.unit off S.size inb).toLoadRect (hm.unread x) = x := by
  rw [View.readAt_eq_ld, hm.read_unread, View.ld_unit_zero ho]

theorem zero3 : (![0, 0, 0] : Fin 3 → ℕ) = fun _ => 0 := by
  funext a
  fin_cases a <;> rfl

theorem zero2 : (![0, 0] : Fin 2 → ℕ) = fun _ => 0 := by
  funext a
  fin_cases a <;> rfl

/-- One row of the convolution's weights. -/
theorem load_tap (m : Memref sig .tc .vmem S1x4x1536 .f32) (hm : m.IsWhole) (x : Vec Ideal S1x4x1536 .f32) (k : Fin 4)
    {off : Fin 3 → ℕ} (ho : off = ![0, k.val, 0]) (inb : ∀ a, off a + S1x1x1536.size a ≤ S1x4x1536.size a) (d : Fin 1536) :
    View.readAt (Elt Ideal) m.view (Rect.unit (s := S1x4x1536) off S1x1x1536.size inb).toLoadRect (hm.unread x) (ix3 0 0 d)
      = x (ix3 0 k d) := by
  subst ho
  rw [View.readAt_eq_ld, hm.read_unread]
  refine View.ld_unit_apply_of x ![0, k.val, 0] S1x1x1536.size inb (ix3 0 0 d) (ix3 0 k d) fun a => ?_
  fin_cases a
  · rfl
  · rfl
  · exact (Nat.zero_add _).symm

/-! ## The padded buffer -/

section Padded

variable (v : View sig .tc .vmem S136x1536 .f32) (f : v.ty.Contents (Elt Ideal)) (L : List (View.Piece (Elt Ideal) S136x1536 .f32))
    (w : Vec Ideal S128x1536 .f32) (P : ℕ → Fin 1536 → EReal) (s : ℕ)
    (hw : ∀ (r : Fin 128) d, w (ix2 r d) = P (s + r.val + 3) d)

include hw

/-- The chunk's own rows, from row 8 on. -/
theorem padded_new (j : Fin 136) (hj : 8 ≤ j.val) (d : Fin 1536) :
    v.read (Elt Ideal) (v.writes (Elt Ideal) f (⟨Rect.unit (s := S136x1536) ![8, 0] S128x1536.size
      inb_S136x1536_S128x1536_8_0, w⟩ :: L)) (ix2 j d) = P (s + (j.val - 5)) d := by
  refine (View.read_writes_cons_rows_of_mem v f inb_S136x1536_S128x1536_8_0 w L (ix2 j d)
    (ix2 (⟨j.val - 8, by omega⟩ : Fin 128) d) (o := 8) rfl ?_ rfl).trans ?_
  · show j.val = 8 + (j.val - 8)
    omega
  · rw [hw]
    exact congrArg (fun l => P l d) (by show s + (j.val - 8) + 3 = s + (j.val - 5); omega)

/-- All rows from row 5 on, once rows 5, 6 and 7 are known. -/
theorem padded_rows
    (hL : ∀ j : Fin 136, 5 ≤ j.val → j.val < 8 → ∀ d, v.read (Elt Ideal) (v.writes (Elt Ideal) f L) (ix2 j d)
      = P (s + (j.val - 5)) d) (j : Fin 136) (hj : 5 ≤ j.val) (d : Fin 1536) :
    v.read (Elt Ideal) (v.writes (Elt Ideal) f (⟨Rect.unit (s := S136x1536) ![8, 0] S128x1536.size
      inb_S136x1536_S128x1536_8_0, w⟩ :: L)) (ix2 j d) = P (s + (j.val - 5)) d := by
  by_cases h : 8 ≤ j.val
  · exact padded_new v f L w P s hw j h d
  · refine (View.read_writes_cons_rows_of_not_mem v f inb_S136x1536_S128x1536_8_0 w L (ix2 j d) (o := 8) (W := 128) rfl rfl
      (Or.inl ?_)).trans (hL j hj (by omega) d)
    show j.val < 8
    omega

end Padded

/-- A load of the padded buffer's rows. -/
theorem load_rows (v : View sig .tc .vmem S136x1536 .f32) (g : v.ty.Contents (Elt Ideal)) (o : ℕ) {T : ℕ}
    {off : Fin 2 → ℕ} (ho : off = ![o, 0]) (inb : ∀ a, off a + (⟨2, ![T, 1536]⟩ : Shape).size a ≤ S136x1536.size a)
    (r : Fin T) (j : Fin 136) (hj : j.val = o + r.val) (d : Fin 1536) :
    View.readAt (Elt Ideal) v (Rect.unit (s := S136x1536) off (⟨2, ![T, 1536]⟩ : Shape).size inb).toLoadRect g (ix2 r d)
      = v.read (Elt Ideal) g (ix2 j d) := by
  subst ho
  refine View.ld_unit_apply_of (v.read (Elt Ideal) g) ![o, 0] (⟨2, ![T, 1536]⟩ : Shape).size inb (ix2 r d) (ix2 j d) fun a => ?_
  fin_cases a
  · exact hj
  · exact (Nat.zero_add _).symm

/-- The rows copied to the front of the padded buffer. -/
theorem pay9_at (v : Vec Ideal S3x1536 .f32) (a : Fin 3) (d : Fin 1536) : k0_pay9 v (ix2 a d) = v (ix2 a d) := by
  pointwise [k0_pay9]

/-- The padded buffer's rows before a sequence's first token. -/
theorem pay3_at (a : Fin 8) (d : Fin 1536) : k0_pay3 (F := Ideal) (ix2 a d) = 0 := by
  pointwise [k0_pay3]

/-- The state before a sequence's first token. -/
theorem pay2_at (n : Fin 16) (d : Fin 1536) : k0_pay2 (F := Ideal) (ix2 n d) = 0 := by
  pointwise [k0_pay2]

/-- The state a chunk leaves, as it is stored. -/
theorem pay22_at (h : Vec Ideal S16x1536 .f32) (n : Fin 16) (d : Fin 1536) : k0_pay22 h (ix2 n d) = h (ix2 n d) := by
  pointwise [k0_pay22]

/-- The padded sequence past its first three rows. -/
theorem pad_add (X : ℕ → Fin 768 → EReal) (l : ℕ) (d : Fin 1536) : Mamba.pad W X (l + 3) d = up W (X l) d := by
  unfold Mamba.pad
  rw [if_neg (by omega), Nat.add_sub_cancel]

/-- The sequence's projected rows, as a chunk stores them. -/
theorem new_rows (X : ℕ → Fin 768 → EReal) (s : ℕ) (x0 : Vec Ideal S1x128x768 .f32) (x1 : Vec Ideal S1x768x3072 .bf16)
    (hx : ∀ (r : Fin 128) k, x0 (ix3 0 r k) = X (s + r.val) k) (h1 : ∀ k e, x1 (ix3 0 k e) = W.inw k e)
    (r : Fin 128) (d : Fin 1536) : k0_pay6 x0 x1 (ix2 r d) = Mamba.pad W X (s + r.val + 3) d := by
  rw [pay6_at x0 x1 h1, pad_add]
  exact congrArg (fun y => up W y d) (funext fun k => hx r k)

/-- The sequence's gates, as a chunk computes them. -/
theorem gates (X : ℕ → Fin 768 → EReal) (s : ℕ) (x0 : Vec Ideal S1x128x768 .f32) (x1 : Vec Ideal S1x768x3072 .bf16)
    (hx : ∀ (r : Fin 128) k, x0 (ix3 0 r k) = X (s + r.val) k) (h1 : ∀ k e, x1 (ix3 0 k e) = W.inw k e)
    (r : Fin 128) (d : Fin 1536) : k0_pay5 x0 x1 (ix2 r d) = gate W (X (s + r.val)) d := by
  rw [pay5_at x0 x1 h1]
  exact congrArg (fun y => gate W y d) (funext fun k => hx r k)

/-- The rows before a sequence's first token. -/
theorem front_A (v : View sig .tc .vmem S136x1536 .f32) (f : v.ty.Contents (Elt Ideal)) (X : ℕ → Fin 768 → EReal) (s : ℕ)
    (hs : s = 0) (j : Fin 136) (h5 : 5 ≤ j.val) (h8 : j.val < 8) (d : Fin 1536) :
    v.read (Elt Ideal) (v.writes (Elt Ideal) f [⟨Rect.unit (s := S136x1536) ![0, 0] S8x1536.size
      inb_S136x1536_S8x1536_0_0, (k0_pay3 (F := Ideal) : Vec Ideal S8x1536 .f32)⟩]) (ix2 j d) = Mamba.pad W X (s + (j.val - 5)) d := by
  refine (View.read_writes_cons_rows_of_mem v f inb_S136x1536_S8x1536_0_0 _ []
    (ix2 j d) (ix2 (⟨j.val, h8⟩ : Fin 8) d) (o := 0) rfl (Nat.zero_add _).symm rfl).trans ?_
  refine (pay3_at _ d).trans ?_
  unfold Mamba.pad
  rw [if_pos (by omega)]

/-- The state before a sequence's first token. -/
theorem init_A (c : Dev nD) (arg16 : Memref sig .tc .vmem S16x1536 .f32) (X : ℕ → Fin 768 → EReal) (s : ℕ)
    (hs : s = 0) (n : Fin 16) (d : Fin 1536) :
    kernelRun0_A.sl.v93 (F := Ideal) c arg16 (ix2 n d) = state W (Mamba.pad W X) s n d := by
  subst hs
  unfold kernelRun0_A.sl.v93 kernelRun0_A.sl.HS3_1
  refine (View.ld_unit_apply_of (arg16.view.read (Elt Ideal) _) ![0, 0] S16x1536.size inb_S16x1536_S16x1536_0_0 (ix2 n d)
    (ix2 n d) fun a => ?_).trans ?_
  · fin_cases a
    · exact (Nat.zero_add _).symm
    · exact (Nat.zero_add _).symm
  · refine (View.read_writes_cons_rows_of_mem arg16.view arg16.view.junk inb_S16x1536_S16x1536_0_0 _ []
      (ix2 n d) (ix2 n d) (o := 0) rfl (Nat.zero_add _).symm rfl).trans ?_
    exact pay2_at n d

/-- A result block stored whole, read at an index. -/
theorem stored_out {sg : RefSig} {κ : Kind} {sp : Space} (v : View sg κ sp S1x128x768 .f32) (f : v.ty.Contents (Elt Ideal))
    (w : Vec Ideal S1x128x768 .f32) (q : Fin 1) (r : Fin 128) (o : Fin 768) :
    v.read (Elt Ideal) (v.writes (Elt Ideal) f [⟨Rect.unit (s := S1x128x768) ![0, 0, 0] S1x128x768.size
      inb_S1x128x768_S1x128x768_0_0_0, w⟩]) (ix3 q r o) = w (ix3 q r o) := by
  refine View.read_writes_cons_unit_of_mem v f inb_S1x128x768_S1x128x768_0_0_0 w [] (ix3 q r o) (ix3 q r o)
    (off' := ![0, 0, 0]) rfl fun a => ?_
  fin_cases a
  · exact (Nat.zero_add _).symm
  · exact (Nat.zero_add _).symm
  · exact (Nat.zero_add _).symm

section Chunk

variable (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole)
    (x0 : Vec Ideal S1x128x768 .f32) (x1 : Vec Ideal S1x768x3072 .bf16) (x2 : Vec Ideal S1x4x1536 .f32)
    (x3 : Vec Ideal S1x1x1536 .f32) (x4 : Vec Ideal S1x1536x80 .bf16) (x5 : Vec Ideal S1x48x1536 .bf16)
    (x6 : Vec Ideal S1x1x1536 .f32) (x7 : Vec Ideal S1x16x1536 .f32) (x8 : Vec Ideal S1x1x1536 .f32)
    (x9 : Vec Ideal S1x1536x768 .bf16)

    (hW : Holds W x1 x2 x3 x4 x5 x6 x7 x8 x9) (X : ℕ → Fin 768 → EReal)

include hW

/-- The activated convolution, from the four loads of the padded buffer and the windows' loads. -/
theorem conv_rows (s : ℕ) (v14 v19 v25 v31 : Vec Ideal S128x1536 .f32)
    (hv14 : ∀ (r : Fin 128) d, v14 (ix2 r d) = Mamba.pad W X (s + r.val) d)
    (hv19 : ∀ (r : Fin 128) d, v19 (ix2 r d) = Mamba.pad W X (s + r.val + 1) d)
    (hv25 : ∀ (r : Fin 128) d, v25 (ix2 r d) = Mamba.pad W X (s + r.val + 2) d)
    (hv31 : ∀ (r : Fin 128) d, v31 (ix2 r d) = Mamba.pad W X (s + r.val + 3) d) (r : Fin 128) (d : Fin 1536) :
    k0_pay10
      (k0_pay7 v14 (View.readAt (Elt Ideal) arg4.view (Rect.unit (s := S1x4x1536) ![0, 0, 0] S1x1x1536.size inb_S1x4x1536_S1x1x1536_0_0_0).toLoadRect (harg4.unread x2))
        v19 (View.readAt (Elt Ideal) arg4.view (Rect.unit (s := S1x4x1536) ![0, 1, 0] S1x1x1536.size inb_S1x4x1536_S1x1x1536_0_1_0).toLoadRect (harg4.unread x2)))
      (k0_pay8 v25 (View.readAt (Elt Ideal) arg4.view (Rect.unit (s := S1x4x1536) ![0, 2, 0] S1x1x1536.size inb_S1x4x1536_S1x1x1536_0_2_0).toLoadRect (harg4.unread x2)))
      v31 (View.readAt (Elt Ideal) arg4.view (Rect.unit (s := S1x4x1536) ![0, 3, 0] S1x1x1536.size inb_S1x4x1536_S1x1x1536_0_3_0).toLoadRect (harg4.unread x2))
      (View.readAt (Elt Ideal) arg5.view (Rect.unit (s := S1x1x1536) ![0, 0, 0] S1x1x1536.size inb_S1x1x1536_S1x1x1536_0_0_0).toLoadRect (harg5.unread x3))
      (ix2 r d) = act W (Mamba.pad W X) (s + r.val) d :=
  pay10_at (Mamba.pad W X) s v14 v19 v25 v31 _ _ _ _ _ hv14 hv19 hv25 hv31
    (fun d => (load_tap arg4 harg4 x2 0 rfl inb_S1x4x1536_S1x1x1536_0_0_0 d).trans (hW.cw 0 d))
    (fun d => (load_tap arg4 harg4 x2 1 rfl inb_S1x4x1536_S1x1x1536_0_1_0 d).trans (hW.cw 1 d))
    (fun d => (load_tap arg4 harg4 x2 2 rfl inb_S1x4x1536_S1x1x1536_0_2_0 d).trans (hW.cw 2 d))
    (fun d => (load_tap arg4 harg4 x2 3 rfl inb_S1x4x1536_S1x1x1536_0_3_0 d).trans (hW.cw 3 d))
    (fun d => (congrFun (load_whole arg5 harg5 x3 zero3 inb_S1x1x1536_S1x1x1536_0_0_0) (ix3 0 0 d)).trans (hW.cb d)) r d

variable (s : ℕ) (hx : ∀ (r : Fin 128) k, x0 (ix3 0 r k) = X (s + r.val) k)

include hx

/-- The rows the chunk stores. -/
theorem new_loaded (r : Fin 128) (d : Fin 1536) :
    k0_pay6 (View.readAt (Elt Ideal) arg2.view (Rect.unit (s := S1x128x768) ![0, 0, 0] S1x128x768.size inb_S1x128x768_S1x128x768_0_0_0).toLoadRect (harg2.unread x0))
      (View.readAt (Elt Ideal) arg3.view (Rect.unit (s := S1x768x3072) ![0, 0, 0] S1x768x3072.size inb_S1x768x3072_S1x768x3072_0_0_0).toLoadRect (harg3.unread x1)) (ix2 r d) = Mamba.pad W X (s + r.val + 3) d := by
  rw [load_whole arg2 harg2 x0 zero3 inb_S1x128x768_S1x128x768_0_0_0,
    load_whole arg3 harg3 x1 zero3 inb_S1x768x3072_S1x768x3072_0_0_0]
  exact new_rows X s x0 x1 hx hW.inw r d

/-- The chunk's gates. -/
theorem gates_loaded (r : Fin 128) (d : Fin 1536) :
    k0_pay5 (View.readAt (Elt Ideal) arg2.view (Rect.unit (s := S1x128x768) ![0, 0, 0] S1x128x768.size inb_S1x128x768_S1x128x768_0_0_0).toLoadRect (harg2.unread x0))
      (View.readAt (Elt Ideal) arg3.view (Rect.unit (s := S1x768x3072) ![0, 0, 0] S1x768x3072.size inb_S1x768x3072_S1x768x3072_0_0_0).toLoadRect (harg3.unread x1)) (ix2 r d) = gate W (X (s + r.val)) d := by
  rw [load_whole arg2 harg2 x0 zero3 inb_S1x128x768_S1x128x768_0_0_0,
    load_whole arg3 harg3 x1 zero3 inb_S1x768x3072_S1x768x3072_0_0_0]
  exact gates X s x0 x1 hx hW.inw r d

/-! ## A later chunk -/

section Later

variable (hc0 : ¬cond0_0 i) (xs0 : Vec Ideal S136x1536 .f32) (xs3 : Vec Ideal S16x1536 .f32)
    (hs0 : ∀ j : Fin 136, 5 ≤ j.val → j.val < 8 → ∀ d, xs0 (ix2 j d) = Mamba.pad W X (s + (j.val - 5)) d)
    (hs3 : ∀ n d, xs3 (ix2 n d) = state W (Mamba.pad W X) s n d)

/-- The rows the chunk stores, whatever the buffer held before. -/
theorem fresh_B (j : Fin 136) (hj : 8 ≤ j.val) (d : Fin 1536) :
    arg13.view.read (Elt Ideal) (arg13.view.writes (Elt Ideal) arg13.view.junk (kernelRun0_B.sl.HS0_1 c arg2 harg2 arg3 harg3 x0 x1)) (ix2 j d)
      = Mamba.pad W X (s + (j.val - 5)) d := by
  unfold kernelRun0_B.sl.HS0_1
  exact padded_new arg13.view _ _ _ (Mamba.pad W X) s (new_loaded arg2 harg2 arg3 harg3 x0 x1 x2 x3 x4 x5 x6 x7 x8 x9 hW X s hx) j hj d

include hs0

/-- The padded buffer's rows from row 5 on, once the chunk's own are stored. -/
theorem rows_B (j : Fin 136) (hj : 5 ≤ j.val) (d : Fin 1536) :
    arg13.view.read (Elt Ideal) (arg13.view.writes (Elt Ideal) (harg13.unread xs0) (kernelRun0_B.sl.HS0_1 c arg2 harg2 arg3 harg3 x0 x1)) (ix2 j d)
      = Mamba.pad W X (s + (j.val - 5)) d := by
  unfold kernelRun0_B.sl.HS0_1
  exact padded_rows arg13.view (harg13.unread xs0) [] _ (Mamba.pad W X) s (new_loaded arg2 harg2 arg3 harg3 x0 x1 x2 x3 x4 x5 x6 x7 x8 x9 hW X s hx)
    (fun j h5 h8 d => ((congrFun (harg13.read_unread xs0) (ix2 j d)).trans (hs0 j h5 h8 d))) j hj d

include hs3

/-- The chunk's rows of the layer. -/
theorem out_B (q : Fin 1) (r : Fin 128) (o : Fin 768) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3 (ix3 q r o) = layer W X (s + r.val) o := by
  unfold out0_B_10 kernelRun0_B
  dsimp only
  refine (stored_out _ _ _ q r o).trans ?_
  unfold kernelRun0_B.sl.v
  unfold kernelRun0_B.sl.r_3 kernelRun0_B.sl.r_4 kernelRun0_B.sl.r_5 kernelRun0_B.sl.r_6 kernelRun0_B.sl.r_7 kernelRun0_B.sl.HS1_1 kernelRun0_B.sl.HS2_1 kernelRun0_B.sl.r
  unfold kernelRun0_B.sl.r_1 kernelRun0_B.sl.r_2 kernelRun0_B.sl.v31
  have e := core_out (W := W) Variants.none none c i arg2 harg2 arg3 harg3 arg4 harg4 arg5 harg5 arg6 harg6 arg7 harg7 arg8 harg8 arg9 harg9 arg10 harg10 arg11 harg11 arg12 harg12 arg13 harg13 arg14 harg14 arg15 harg15 arg16 harg16 (Mamba.pad W X) s _ _ _ _ _ _ _ _ _ _
    (conv_rows arg4 harg4 arg5 harg5 x1 x2 x3 x4 x5 x6 x7 x8 x9 hW X s _ _ _ _
      (fun r d => (load_rows arg13.view _ 5 rfl inb_S136x1536_S128x1536_5_0 r ⟨5 + r.val, by omega⟩ rfl d).trans
        ((rows_B c arg2 harg2 arg3 harg3 arg13 harg13 x0 x1 x2 x3 x4 x5 x6 x7 x8 x9 hW X s hx xs0 hs0 ⟨5 + r.val, by omega⟩ (by show 5 ≤ 5 + r.val; omega) d).trans
          (congrArg (fun l => Mamba.pad W X l d) (by show s + (5 + r.val - 5) = s + r.val; omega))))
      (fun r d => (load_rows arg13.view _ 6 rfl inb_S136x1536_S128x1536_6_0 r ⟨6 + r.val, by omega⟩ rfl d).trans
        ((rows_B c arg2 harg2 arg3 harg3 arg13 harg13 x0 x1 x2 x3 x4 x5 x6 x7 x8 x9 hW X s hx xs0 hs0 ⟨6 + r.val, by omega⟩ (by show 5 ≤ 6 + r.val; omega) d).trans
          (congrArg (fun l => Mamba.pad W X l d) (by show s + (6 + r.val - 5) = s + r.val + 1; omega))))
      (fun r d => (load_rows arg13.view _ 7 rfl inb_S136x1536_S128x1536_7_0 r ⟨7 + r.val, by omega⟩ rfl d).trans
        ((rows_B c arg2 harg2 arg3 harg3 arg13 harg13 x0 x1 x2 x3 x4 x5 x6 x7 x8 x9 hW X s hx xs0 hs0 ⟨7 + r.val, by omega⟩ (by show 5 ≤ 7 + r.val; omega) d).trans
          (congrArg (fun l => Mamba.pad W X l d) (by show s + (7 + r.val - 5) = s + r.val + 2; omega))))
      (fun r d => (load_rows arg13.view _ 8 rfl inb_S136x1536_S128x1536_8_0 r ⟨8 + r.val, by omega⟩ rfl d).trans
        ((fresh_B c arg2 harg2 arg3 harg3 arg13 x0 x1 x2 x3 x4 x5 x6 x7 x8 x9 hW X s hx ⟨8 + r.val, by omega⟩ (by show 8 ≤ 8 + r.val; omega) d).trans
          (congrArg (fun l => Mamba.pad W X l d) (by show s + (8 + r.val - 5) = s + r.val + 3; omega)))))
    (fun k e => (congrFun (load_whole arg6 harg6 x4 zero3 inb_S1x1536x80_S1x1536x80_0_0_0) (ix3 0 k e)).trans (hW.xp k e))
    (fun k e => (congrFun (load_whole arg7 harg7 x5 zero3 inb_S1x48x1536_S1x48x1536_0_0_0) (ix3 0 k e)).trans (hW.dtw k e))
    (fun e => (congrFun (load_whole arg8 harg8 x6 zero3 inb_S1x1x1536_S1x1x1536_0_0_0) (ix3 0 0 e)).trans (hW.dtb e))
    (fun k e => (congrFun (load_whole arg9 harg9 x7 zero3 inb_S1x16x1536_S1x16x1536_0_0_0) (ix3 0 k e)).trans (hW.al k e))
    (fun n d => (congrFun (load_whole arg16 harg16 xs3 zero2 inb_S16x1536_S16x1536_0_0) (ix2 n d)).trans (hs3 n d))
    _ trips_eq (fun l => gate W (X l)) _ (gates_loaded arg2 harg2 arg3 harg3 x0 x1 x2 x3 x4 x5 x6 x7 x8 x9 hW X s hx) _ _
    (fun e => (congrFun (load_whole arg10 harg10 x8 zero3 inb_S1x1x1536_S1x1x1536_0_0_0) (ix3 0 0 e)).trans (hW.dk e))
    (fun k e => (congrFun (load_whole arg11 harg11 x9 zero3 inb_S1x1536x768_S1x1536x768_0_0_0) (ix3 0 k e)).trans (hW.ow k e)) q r o
  exact e

/-- The state after the chunk's last token. -/
theorem state_B (n : Fin 16) (d : Fin 1536) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3 (ix2 n d) = state W (Mamba.pad W X) (s + 128) n d := by
  unfold sout0_B_3 kernelRun0_B
  dsimp only
  refine (View.read_writes_cons_rows_of_mem _ _ _ _ [] (ix2 n d) (ix2 n d) (o := 0) rfl (Nat.zero_add _).symm rfl).trans ?_
  refine (pay22_at _ n d).trans ?_
  unfold kernelRun0_B.sl.r_3 kernelRun0_B.sl.r_4 kernelRun0_B.sl.r_6 kernelRun0_B.sl.r_7 kernelRun0_B.sl.HS1_1 kernelRun0_B.sl.HS2_1
  unfold kernelRun0_B.sl.r_1 kernelRun0_B.sl.r_2 kernelRun0_B.sl.v31
  exact (core_loop (W := W) Variants.none none c i arg2 harg2 arg3 harg3 arg4 harg4 arg5 harg5 arg6 harg6 arg7 harg7 arg8 harg8 arg9 harg9 arg10 harg10 arg11 harg11 arg12 harg12 arg13 harg13 arg14 harg14 arg15 harg15 arg16 harg16 (Mamba.pad W X) s _ _ _ _ _ _ _ _ _ _
    (conv_rows arg4 harg4 arg5 harg5 x1 x2 x3 x4 x5 x6 x7 x8 x9 hW X s _ _ _ _
      (fun r d => (load_rows arg13.view _ 5 rfl inb_S136x1536_S128x1536_5_0 r ⟨5 + r.val, by omega⟩ rfl d).trans
        ((rows_B c arg2 harg2 arg3 harg3 arg13 harg13 x0 x1 x2 x3 x4 x5 x6 x7 x8 x9 hW X s hx xs0 hs0 ⟨5 + r.val, by omega⟩ (by show 5 ≤ 5 + r.val; omega) d).trans
          (congrArg (fun l => Mamba.pad W X l d) (by show s + (5 + r.val - 5) = s + r.val; omega))))
      (fun r d => (load_rows arg13.view _ 6 rfl inb_S136x1536_S128x1536_6_0 r ⟨6 + r.val, by omega⟩ rfl d).trans
        ((rows_B c arg2 harg2 arg3 harg3 arg13 harg13 x0 x1 x2 x3 x4 x5 x6 x7 x8 x9 hW X s hx xs0 hs0 ⟨6 + r.val, by omega⟩ (by show 5 ≤ 6 + r.val; omega) d).trans
          (congrArg (fun l => Mamba.pad W X l d) (by show s + (6 + r.val - 5) = s + r.val + 1; omega))))
      (fun r d => (load_rows arg13.view _ 7 rfl inb_S136x1536_S128x1536_7_0 r ⟨7 + r.val, by omega⟩ rfl d).trans
        ((rows_B c arg2 harg2 arg3 harg3 arg13 harg13 x0 x1 x2 x3 x4 x5 x6 x7 x8 x9 hW X s hx xs0 hs0 ⟨7 + r.val, by omega⟩ (by show 5 ≤ 7 + r.val; omega) d).trans
          (congrArg (fun l => Mamba.pad W X l d) (by show s + (7 + r.val - 5) = s + r.val + 2; omega))))
      (fun r d => (load_rows arg13.view _ 8 rfl inb_S136x1536_S128x1536_8_0 r ⟨8 + r.val, by omega⟩ rfl d).trans
        ((fresh_B c arg2 harg2 arg3 harg3 arg13 x0 x1 x2 x3 x4 x5 x6 x7 x8 x9 hW X s hx ⟨8 + r.val, by omega⟩ (by show 8 ≤ 8 + r.val; omega) d).trans
          (congrArg (fun l => Mamba.pad W X l d) (by show s + (8 + r.val - 5) = s + r.val + 3; omega)))))
    (fun k e => (congrFun (load_whole arg6 harg6 x4 zero3 inb_S1x1536x80_S1x1536x80_0_0_0) (ix3 0 k e)).trans (hW.xp k e))
    (fun k e => (congrFun (load_whole arg7 harg7 x5 zero3 inb_S1x48x1536_S1x48x1536_0_0_0) (ix3 0 k e)).trans (hW.dtw k e))
    (fun e => (congrFun (load_whole arg8 harg8 x6 zero3 inb_S1x1x1536_S1x1x1536_0_0_0) (ix3 0 0 e)).trans (hW.dtb e))
    (fun k e => (congrFun (load_whole arg9 harg9 x7 zero3 inb_S1x16x1536_S1x16x1536_0_0_0) (ix3 0 k e)).trans (hW.al k e))
    (fun n d => (congrFun (load_whole arg16 harg16 xs3 zero2 inb_S16x1536_S16x1536_0_0) (ix2 n d)).trans (hs3 n d))
    _ trips_eq).1 n d

omit hs3 in
/-- The rows the next chunk's convolution begins with. -/
theorem tail_B (j : Fin 136) (h5 : 5 ≤ j.val) (h8 : j.val < 8) (d : Fin 1536) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3 (ix2 j d) = Mamba.pad W X (s + 128 + (j.val - 5)) d := by
  unfold sout0_B_0 kernelRun0_B
  dsimp only
  refine (View.read_writes_cons_rows_of_mem _ _ _ _ _ (ix2 j d) (ix2 (⟨j.val - 5, by omega⟩ : Fin 3) d) (o := 5) rfl
    (by show j.val = 5 + (j.val - 5); omega) rfl).trans ?_
  refine (pay9_at _ _ d).trans ?_
  unfold kernelRun0_B.sl.v41
  refine (load_rows arg13.view _ 133 rfl inb_S136x1536_S3x1536_133_0 _ ⟨133 + (j.val - 5), by omega⟩ rfl d).trans ?_
  exact (fresh_B c arg2 harg2 arg3 harg3 arg13 x0 x1 x2 x3 x4 x5 x6 x7 x8 x9 hW X s hx ⟨133 + (j.val - 5), by omega⟩ (by show 8 ≤ 133 + (j.val - 5); omega) d).trans
    (congrArg (fun l => Mamba.pad W X l d) (by show s + (133 + (j.val - 5) - 5) = s + 128 + (j.val - 5); omega))

end Later

/-! ## A sequence's first chunk -/

section First

variable (hc0 : cond0_0 i) (hs : s = 0)

include hs

/-- The padded buffer's rows from row 5 on, once the chunk's own are stored. -/
theorem rows_A (j : Fin 136) (hj : 5 ≤ j.val) (d : Fin 1536) :
    arg13.view.read (Elt Ideal) (arg13.view.writes (Elt Ideal) arg13.view.junk (kernelRun0_A.sl.HS0_2 c arg2 harg2 arg3 harg3 x0 x1)) (ix2 j d)
      = Mamba.pad W X (s + (j.val - 5)) d := by
  unfold kernelRun0_A.sl.HS0_2
  exact padded_rows arg13.view arg13.view.junk _ _ (Mamba.pad W X) s (new_loaded arg2 harg2 arg3 harg3 x0 x1 x2 x3 x4 x5 x6 x7 x8 x9 hW X s hx)
    (front_A arg13.view _ X s hs) j hj d

/-- The chunk's rows of the layer. -/
theorem out_A (q : Fin 1) (r : Fin 128) (o : Fin 768) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix3 q r o) = layer W X (s + r.val) o := by
  unfold out0_A_10 kernelRun0_A
  dsimp only
  refine (stored_out _ _ _ q r o).trans ?_
  unfold kernelRun0_A.sl.v
  unfold kernelRun0_A.sl.r_3 kernelRun0_A.sl.r_4 kernelRun0_A.sl.r_5 kernelRun0_A.sl.r_6 kernelRun0_A.sl.r_7 kernelRun0_A.sl.HS1_1 kernelRun0_A.sl.HS2_1 kernelRun0_A.sl.r
  unfold kernelRun0_A.sl.r_1 kernelRun0_A.sl.r_2 kernelRun0_A.sl.v14 kernelRun0_A.sl.v19 kernelRun0_A.sl.v25 kernelRun0_A.sl.v31
  have e := core_out (W := W) Variants.none none c i arg2 harg2 arg3 harg3 arg4 harg4 arg5 harg5 arg6 harg6 arg7 harg7 arg8 harg8 arg9 harg9 arg10 harg10 arg11 harg11 arg12 harg12 arg13 harg13 arg14 harg14 arg15 harg15 arg16 harg16 (Mamba.pad W X) s _ _ _ _ _ _ _ _ _ _
    (conv_rows arg4 harg4 arg5 harg5 x1 x2 x3 x4 x5 x6 x7 x8 x9 hW X s _ _ _ _
      (fun r d => (load_rows arg13.view _ 5 rfl inb_S136x1536_S128x1536_5_0 r ⟨5 + r.val, by omega⟩ rfl d).trans
        ((rows_A c arg2 harg2 arg3 harg3 arg13 x0 x1 x2 x3 x4 x5 x6 x7 x8 x9 hW X s hx hs ⟨5 + r.val, by omega⟩ (by show 5 ≤ 5 + r.val; omega) d).trans
          (congrArg (fun l => Mamba.pad W X l d) (by show s + (5 + r.val - 5) = s + r.val; omega))))
      (fun r d => (load_rows arg13.view _ 6 rfl inb_S136x1536_S128x1536_6_0 r ⟨6 + r.val, by omega⟩ rfl d).trans
        ((rows_A c arg2 harg2 arg3 harg3 arg13 x0 x1 x2 x3 x4 x5 x6 x7 x8 x9 hW X s hx hs ⟨6 + r.val, by omega⟩ (by show 5 ≤ 6 + r.val; omega) d).trans
          (congrArg (fun l => Mamba.pad W X l d) (by show s + (6 + r.val - 5) = s + r.val + 1; omega))))
      (fun r d => (load_rows arg13.view _ 7 rfl inb_S136x1536_S128x1536_7_0 r ⟨7 + r.val, by omega⟩ rfl d).trans
        ((rows_A c arg2 harg2 arg3 harg3 arg13 x0 x1 x2 x3 x4 x5 x6 x7 x8 x9 hW X s hx hs ⟨7 + r.val, by omega⟩ (by show 5 ≤ 7 + r.val; omega) d).trans
          (congrArg (fun l => Mamba.pad W X l d) (by show s + (7 + r.val - 5) = s + r.val + 2; omega))))
      (fun r d => (load_rows arg13.view _ 8 rfl inb_S136x1536_S128x1536_8_0 r ⟨8 + r.val, by omega⟩ rfl d).trans
        ((rows_A c arg2 harg2 arg3 harg3 arg13 x0 x1 x2 x3 x4 x5 x6 x7 x8 x9 hW X s hx hs ⟨8 + r.val, by omega⟩ (by show 5 ≤ 8 + r.val; omega) d).trans
          (congrArg (fun l => Mamba.pad W X l d) (by show s + (8 + r.val - 5) = s + r.val + 3; omega)))))
    (fun k e => (congrFun (load_whole arg6 harg6 x4 zero3 inb_S1x1536x80_S1x1536x80_0_0_0) (ix3 0 k e)).trans (hW.xp k e))
    (fun k e => (congrFun (load_whole arg7 harg7 x5 zero3 inb_S1x48x1536_S1x48x1536_0_0_0) (ix3 0 k e)).trans (hW.dtw k e))
    (fun e => (congrFun (load_whole arg8 harg8 x6 zero3 inb_S1x1x1536_S1x1x1536_0_0_0) (ix3 0 0 e)).trans (hW.dtb e))
    (fun k e => (congrFun (load_whole arg9 harg9 x7 zero3 inb_S1x16x1536_S1x16x1536_0_0_0) (ix3 0 k e)).trans (hW.al k e))
    (init_A c arg16 X s hs)
    _ trips_eq (fun l => gate W (X l)) _ (gates_loaded arg2 harg2 arg3 harg3 x0 x1 x2 x3 x4 x5 x6 x7 x8 x9 hW X s hx) _ _
    (fun e => (congrFun (load_whole arg10 harg10 x8 zero3 inb_S1x1x1536_S1x1x1536_0_0_0) (ix3 0 0 e)).trans (hW.dk e))
    (fun k e => (congrFun (load_whole arg11 harg11 x9 zero3 inb_S1x1536x768_S1x1536x768_0_0_0) (ix3 0 k e)).trans (hW.ow k e)) q r o
  exact e

/-- The state after the chunk's last token. -/
theorem state_A (n : Fin 16) (d : Fin 1536) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 n d) = state W (Mamba.pad W X) (s + 128) n d := by
  unfold sout0_A_3 kernelRun0_A
  dsimp only
  refine (View.read_writes_cons_rows_of_mem _ _ _ _ [] (ix2 n d) (ix2 n d) (o := 0) rfl (Nat.zero_add _).symm rfl).trans ?_
  refine (pay22_at _ n d).trans ?_
  unfold kernelRun0_A.sl.r_3 kernelRun0_A.sl.r_4 kernelRun0_A.sl.r_6 kernelRun0_A.sl.r_7 kernelRun0_A.sl.HS1_1 kernelRun0_A.sl.HS2_1
  unfold kernelRun0_A.sl.r_1 kernelRun0_A.sl.r_2 kernelRun0_A.sl.v14 kernelRun0_A.sl.v19 kernelRun0_A.sl.v25 kernelRun0_A.sl.v31
  exact (core_loop (W := W) Variants.none none c i arg2 harg2 arg3 harg3 arg4 harg4 arg5 harg5 arg6 harg6 arg7 harg7 arg8 harg8 arg9 harg9 arg10 harg10 arg11 harg11 arg12 harg12 arg13 harg13 arg14 harg14 arg15 harg15 arg16 harg16 (Mamba.pad W X) s _ _ _ _ _ _ _ _ _ _
    (conv_rows arg4 harg4 arg5 harg5 x1 x2 x3 x4 x5 x6 x7 x8 x9 hW X s _ _ _ _
      (fun r d => (load_rows arg13.view _ 5 rfl inb_S136x1536_S128x1536_5_0 r ⟨5 + r.val, by omega⟩ rfl d).trans
        ((rows_A c arg2 harg2 arg3 harg3 arg13 x0 x1 x2 x3 x4 x5 x6 x7 x8 x9 hW X s hx hs ⟨5 + r.val, by omega⟩ (by show 5 ≤ 5 + r.val; omega) d).trans
          (congrArg (fun l => Mamba.pad W X l d) (by show s + (5 + r.val - 5) = s + r.val; omega))))
      (fun r d => (load_rows arg13.view _ 6 rfl inb_S136x1536_S128x1536_6_0 r ⟨6 + r.val, by omega⟩ rfl d).trans
        ((rows_A c arg2 harg2 arg3 harg3 arg13 x0 x1 x2 x3 x4 x5 x6 x7 x8 x9 hW X s hx hs ⟨6 + r.val, by omega⟩ (by show 5 ≤ 6 + r.val; omega) d).trans
          (congrArg (fun l => Mamba.pad W X l d) (by show s + (6 + r.val - 5) = s + r.val + 1; omega))))
      (fun r d => (load_rows arg13.view _ 7 rfl inb_S136x1536_S128x1536_7_0 r ⟨7 + r.val, by omega⟩ rfl d).trans
        ((rows_A c arg2 harg2 arg3 harg3 arg13 x0 x1 x2 x3 x4 x5 x6 x7 x8 x9 hW X s hx hs ⟨7 + r.val, by omega⟩ (by show 5 ≤ 7 + r.val; omega) d).trans
          (congrArg (fun l => Mamba.pad W X l d) (by show s + (7 + r.val - 5) = s + r.val + 2; omega))))
      (fun r d => (load_rows arg13.view _ 8 rfl inb_S136x1536_S128x1536_8_0 r ⟨8 + r.val, by omega⟩ rfl d).trans
        ((rows_A c arg2 harg2 arg3 harg3 arg13 x0 x1 x2 x3 x4 x5 x6 x7 x8 x9 hW X s hx hs ⟨8 + r.val, by omega⟩ (by show 5 ≤ 8 + r.val; omega) d).trans
          (congrArg (fun l => Mamba.pad W X l d) (by show s + (8 + r.val - 5) = s + r.val + 3; omega)))))
    (fun k e => (congrFun (load_whole arg6 harg6 x4 zero3 inb_S1x1536x80_S1x1536x80_0_0_0) (ix3 0 k e)).trans (hW.xp k e))
    (fun k e => (congrFun (load_whole arg7 harg7 x5 zero3 inb_S1x48x1536_S1x48x1536_0_0_0) (ix3 0 k e)).trans (hW.dtw k e))
    (fun e => (congrFun (load_whole arg8 harg8 x6 zero3 inb_S1x1x1536_S1x1x1536_0_0_0) (ix3 0 0 e)).trans (hW.dtb e))
    (fun k e => (congrFun (load_whole arg9 harg9 x7 zero3 inb_S1x16x1536_S1x16x1536_0_0_0) (ix3 0 k e)).trans (hW.al k e))
    (init_A c arg16 X s hs)
    _ trips_eq).1 n d

/-- The rows the next chunk's convolution begins with. -/
theorem tail_A (j : Fin 136) (h5 : 5 ≤ j.val) (h8 : j.val < 8) (d : Fin 1536) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 j d) = Mamba.pad W X (s + 128 + (j.val - 5)) d := by
  unfold sout0_A_0 kernelRun0_A
  dsimp only
  unfold kernelRun0_A.sl.HS0_3
  refine (View.read_writes_cons_rows_of_mem _ _ _ _ _ (ix2 j d) (ix2 (⟨j.val - 5, by omega⟩ : Fin 3) d) (o := 5) rfl
    (by show j.val = 5 + (j.val - 5); omega) rfl).trans ?_
  refine (pay9_at _ _ d).trans ?_
  unfold kernelRun0_A.sl.v41
  refine (load_rows arg13.view _ 133 rfl inb_S136x1536_S3x1536_133_0 _ ⟨133 + (j.val - 5), by omega⟩ rfl d).trans ?_
  exact (rows_A c arg2 harg2 arg3 harg3 arg13 x0 x1 x2 x3 x4 x5 x6 x7 x8 x9 hW X s hx hs ⟨133 + (j.val - 5), by omega⟩ (by show 5 ≤ 133 + (j.val - 5); omega) d).trans
    (congrArg (fun l => Mamba.pad W X l d) (by show s + (133 + (j.val - 5) - 5) = s + 128 + (j.val - 5); omega))

end First

end Chunk

end Cert.KernelIdeal.Value

end
-- ==== Proof.Blocks.lean ====
module

public import proofs.«01_k».proof.Proof.ChunkValue
public import Idealize.ShloMosaic.Lib.StableHlo.ReadAt
public import Idealize.ShloMosaic.Lib.Pipeline.ValueKit.Point

@[expose] public section

set_option maxRecDepth 16384

/-!
# The blocks the grid points read

The host stacks the two layers' weights and the two orders of the tokens before the launch. Here each stacked array is
read at an index, and then each window's block at a grid point: the tokens of row `t / 8`, chunk `t % 8`, and the weights
of direction `t / 16`.
-/

noncomputable section

namespace Cert.KernelIdeal.Value

open Idealize.ShloMosaic Idealize.ShloMosaic.TcCoe Idealize.ShloMosaic.Tactic
open Cert.KernelIdeal Cert.KernelIdeal.Gen Cert.KernelIdeal.Body Cert.Mamba

variable (m : (ℓ : Loc nD τ sig) → Buf (Elt Ideal) ℓ)

/-- The forward layer's weights. -/
def fwd (c : Dev nD) : Weights :=
  Weights.ofArrays (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The backward layer's weights. -/
def bwd (c : Dev nD) : Weights :=
  Weights.ofArrays (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18))

/-- The weights of one direction: 0 is forward, anything else backward. -/
def side (c : Dev nD) (h : ℕ) : Weights := if h < 1 then fwd m c else bwd m c

/-- The tokens row `g` of the grid runs over: 0 and 1 are the two batches in order, 2 and 3 the two batches reversed. -/
def seq (c : Dev nD) (g : ℕ) : ℕ → Fin 768 → EReal :=
  if g < 2 then rows (m ((c : Thread nD τ).loc main_arg0)) ⟨g % 2, Nat.mod_lt _ (by decide)⟩
  else rowsRev (m ((c : Thread nD τ).loc main_arg0)) ⟨g % 2, Nat.mod_lt _ (by decide)⟩

/-! ## The stacked arrays -/

/-- The stacked tokens. -/
theorem tokens_at (c : Dev nD) (g : Fin 4) (l : Fin 1024) (k : Fin 768) :
    V m c main_v1 (ix3 g l k) = seq m c g.val l.val k := by
  unfold V V0 seq
  after_reads_at
  by_cases hs : g.val < 2
  · rw [dif_pos hs, if_pos hs]
    unfold rows
    rw [dif_pos l.isLt]
    refine congrArg _ ?_
    congr 1
    apply Fin.ext
    show g.val = g.val % 2
    omega
  · rw [dif_neg hs, if_neg hs]
    unfold rowsRev
    rw [dif_pos l.isLt]
    simp only [List.mem_singleton, zero_ne_one, Fin.reduceEq, ↓reduceIte]
    refine congrArg (m ((c : Thread nD τ).loc main_arg0)) ?_
    congr 1
    · apply Fin.ext
      show g.val - 2 = g.val % 2
      omega
    · apply Fin.ext
      show 1024 - (l.val + 1) = 1023 - l.val
      omega

/-- The stacked input projections. -/
theorem inw_at (c : Dev nD) (h : Fin 2) (k : Fin 768) (e : Fin 3072) :
    V m c main_v7 (ix3 h k e) = (side m c h.val).inw k e := by
  unfold V V0 side
  after_reads_at
  by_cases hs : h.val < 1
  · rw [dif_pos hs, if_pos hs]
    try after_reads_at
    rfl
  · rw [dif_neg hs, if_neg hs]
    try after_reads_at
    rfl

/-- The stacked convolution taps. -/
theorem cw_at (c : Dev nD) (h : Fin 2) (k : Fin 4) (e : Fin 1536) :
    V m c main_v12 (ix3 h k e) = (side m c h.val).cw k e := by
  unfold V V0 side
  after_reads_at
  by_cases hs : h.val < 1
  · rw [dif_pos hs, if_pos hs]
    try after_reads_at
    rfl
  · rw [dif_neg hs, if_neg hs]
    try after_reads_at
    rfl

/-- The stacked convolution biases. -/
theorem cb_at (c : Dev nD) (h : Fin 2) (k : Fin 1) (e : Fin 1536) :
    V m c main_v16 (ix3 h k e) = (side m c h.val).cb e := by
  unfold V V0 side
  after_reads_at
  by_cases hs : h.val < 1
  · rw [dif_pos hs, if_pos hs]
    try after_reads_at
    rfl
  · rw [dif_neg hs, if_neg hs]
    try after_reads_at
    rfl

/-- The stacked projections to step, input and output coefficients. -/
theorem xp_at (c : Dev nD) (h : Fin 2) (k : Fin 1536) (e : Fin 80) :
    V m c main_v22 (ix3 h k e) = (side m c h.val).xp k e := by
  unfold V V0 side
  after_reads_at
  by_cases hs : h.val < 1
  · rw [dif_pos hs, if_pos hs]
    try after_reads_at
    rfl
  · rw [dif_neg hs, if_neg hs]
    try after_reads_at
    rfl

/-- The stacked step projections. -/
theorem dtw_at (c : Dev nD) (h : Fin 2) (k : Fin 48) (e : Fin 1536) :
    V m c main_v28 (ix3 h k e) = (side m c h.val).dtw k e := by
  unfold V V0 side
  after_reads_at
  by_cases hs : h.val < 1
  · rw [dif_pos hs, if_pos hs]
    try after_reads_at
    rfl
  · rw [dif_neg hs, if_neg hs]
    try after_reads_at
    rfl

/-- The stacked step biases. -/
theorem dtb_at (c : Dev nD) (h : Fin 2) (k : Fin 1) (e : Fin 1536) :
    V m c main_v32 (ix3 h k e) = (side m c h.val).dtb e := by
  unfold V V0 side
  after_reads_at
  by_cases hs : h.val < 1
  · rw [dif_pos hs, if_pos hs]
    try after_reads_at
    rfl
  · rw [dif_neg hs, if_neg hs]
    try after_reads_at
    rfl

/-- The stacked decay logarithms. -/
theorem al_at (c : Dev nD) (h : Fin 2) (k : Fin 16) (e : Fin 1536) :
    V m c main_v37 (ix3 h k e) = (side m c h.val).al k e := by
  unfold V V0 side
  after_reads_at
  by_cases hs : h.val < 1
  · rw [dif_pos hs, if_pos hs]
    try after_reads_at
    rfl
  · rw [dif_neg hs, if_neg hs]
    try after_reads_at
    rfl

/-- The stacked skip coefficients. -/
theorem dk_at (c : Dev nD) (h : Fin 2) (k : Fin 1) (e : Fin 1536) :
    V m c main_v41 (ix3 h k e) = (side m c h.val).dk e := by
  unfold V V0 side
  after_reads_at
  by_cases hs : h.val < 1
  · rw [dif_pos hs, if_pos hs]
    try after_reads_at
    rfl
  · rw [dif_neg hs, if_neg hs]
    try after_reads_at
    rfl

/-- The stacked output projections. -/
theorem ow_at (c : Dev nD) (h : Fin 2) (k : Fin 1536) (e : Fin 768) :
    V m c main_v47 (ix3 h k e) = (side m c h.val).ow k e := by
  unfold V V0 side
  after_reads_at
  by_cases hs : h.val < 1
  · rw [dif_pos hs, if_pos hs]
    try after_reads_at
    rfl
  · rw [dif_neg hs, if_neg hs]
    try after_reads_at
    rfl

/-! ## Where the windows stand -/

/-- The tokens' block at a point: row `t / 8`, chunk `t % 8`. -/
theorem tokens_block : ∀ t : Fin 32,
    win0_0.index t 0 = t.val / 8 ∧ win0_0.index t 1 = t.val % 8 ∧ win0_0.index t 2 = 0 := by decide +kernel

/-- The result's block at a point: row `t / 8`, chunk `t % 8`. -/
theorem result_block : ∀ t : Fin 32,
    win0_10.index t 0 = t.val / 8 ∧ win0_10.index t 1 = t.val % 8 ∧ win0_10.index t 2 = 0 := by decide +kernel

/-- The block of direction `t / 16`. -/
abbrev AtSide (t : Fin 32) (p0 p1 p2 : ℕ) : Prop := p0 = t.val / 16 ∧ p1 = 0 ∧ p2 = 0

/-- Every weight window stands at the block of direction `t / 16`. -/
theorem weights_block : ∀ t : Fin 32,
    AtSide t (win0_1.index t 0) (win0_1.index t 1) (win0_1.index t 2) ∧
    AtSide t (win0_2.index t 0) (win0_2.index t 1) (win0_2.index t 2) ∧
    AtSide t (win0_3.index t 0) (win0_3.index t 1) (win0_3.index t 2) ∧
    AtSide t (win0_4.index t 0) (win0_4.index t 1) (win0_4.index t 2) ∧
    AtSide t (win0_5.index t 0) (win0_5.index t 1) (win0_5.index t 2) ∧
    AtSide t (win0_6.index t 0) (win0_6.index t 1) (win0_6.index t 2) ∧
    AtSide t (win0_7.index t 0) (win0_7.index t 1) (win0_7.index t 2) ∧
    AtSide t (win0_8.index t 0) (win0_8.index t 1) (win0_8.index t 2) ∧
    AtSide t (win0_9.index t 0) (win0_9.index t 1) (win0_9.index t 2) := by
  decide +kernel

/-- The index of an element of a weight block within the stacked array. -/
theorem side_index {a b : ℕ} (t : Fin 32) (p0 p1 p2 : ℕ) (hp : AtSide t p0 p1 p2) (k : Fin a) (e : Fin b)
    (i : (⟨3, ![2, a, b]⟩ : Shape).Idx) (h0 : (i 0).val = p0 * 1 + 1 * 0) (h1 : (i 1).val = p1 * a + 1 * k.val)
    (h2 : (i 2).val = p2 * b + 1 * e.val) : i = ix3 ⟨t.val / 16, by omega⟩ k e := by
  obtain ⟨q0, q1, q2⟩ := hp
  rw [q0] at h0
  rw [q1] at h1
  rw [q2] at h2
  funext x
  apply Fin.ext
  match x with
  | ⟨0, _⟩ => refine h0.trans ?_; show _ = t.val / 16; omega
  | ⟨1, _⟩ => refine h1.trans ?_; show _ = k.val; omega
  | ⟨2, _⟩ => refine h2.trans ?_; show _ = e.val; omega

/-! ## The blocks -/

/-- The tokens a point reads. -/
theorem tokens_read (c : Dev nD) (t : Fin 32) (r : Fin 128) (k : Fin 768) :
    iblk m c 0 t (ix3 0 r k) = seq m c (t.val / 8) (128 * (t.val % 8) + r.val) k := by
  have e : iblk m c 0 t (ix3 0 r k)
      = V m c main_v1 (ix3 ⟨t.val / 8, by omega⟩ ⟨128 * (t.val % 8) + r.val, by omega⟩ k) := by
    unfold iblk
    rw [View.read_apply]
    show V m c main_v1 _ = _
    congr 1
    funext a
    apply Fin.ext
    match a with
    | ⟨0, _⟩ => show win0_0.index t 0 * 1 + 1 * 0 = t.val / 8; rw [(tokens_block t).1]; omega
    | ⟨1, _⟩ =>
      show win0_0.index t 1 * 128 + 1 * r.val = 128 * (t.val % 8) + r.val
      rw [(tokens_block t).2.1]; omega
    | ⟨2, _⟩ => show win0_0.index t 2 * 768 + 1 * k.val = k.val; rw [(tokens_block t).2.2]; omega
  rw [e]
  exact tokens_at m c _ _ _

/-- The input projections a point reads. -/
theorem inw_read (c : Dev nD) (t : Fin 32) (k : Fin 768) (e : Fin 3072) :
    iblk m c 1 t (ix3 0 k e) = (side m c (t.val / 16)).inw k e := by
  unfold iblk
  rw [View.read_apply]
  refine (congrArg (V m c main_v7) (side_index t _ _ _ (weights_block t).1 k e _ ?_ ?_ ?_)).trans (inw_at m c _ k e)
  all_goals rfl

/-- The convolution taps a point reads. -/
theorem cw_read (c : Dev nD) (t : Fin 32) (k : Fin 4) (e : Fin 1536) :
    iblk m c 2 t (ix3 0 k e) = (side m c (t.val / 16)).cw k e := by
  unfold iblk
  rw [View.read_apply]
  refine (congrArg (V m c main_v12) (side_index t _ _ _ (weights_block t).2.1 k e _ ?_ ?_ ?_)).trans (cw_at m c _ k e)
  all_goals rfl

/-- The convolution biases a point reads. -/
theorem cb_read (c : Dev nD) (t : Fin 32) (k : Fin 1) (e : Fin 1536) :
    iblk m c 3 t (ix3 0 k e) = (side m c (t.val / 16)).cb e := by
  unfold iblk
  rw [View.read_apply]
  refine (congrArg (V m c main_v16) (side_index t _ _ _ (weights_block t).2.2.1 k e _ ?_ ?_ ?_)).trans (cb_at m c _ k e)
  all_goals rfl

/-- The projections to step, input and output coefficients a point reads. -/
theorem xp_read (c : Dev nD) (t : Fin 32) (k : Fin 1536) (e : Fin 80) :
    iblk m c 4 t (ix3 0 k e) = (side m c (t.val / 16)).xp k e := by
  unfold iblk
  rw [View.read_apply]
  refine (congrArg (V m c main_v22) (side_index t _ _ _ (weights_block t).2.2.2.1 k e _ ?_ ?_ ?_)).trans (xp_at m c _ k e)
  all_goals rfl

/-- The step projections a point reads. -/
theorem dtw_read (c : Dev nD) (t : Fin 32) (k : Fin 48) (e : Fin 1536) :
    iblk m c 5 t (ix3 0 k e) = (side m c (t.val / 16)).dtw k e := by
  unfold iblk
  rw [View.read_apply]
  refine (congrArg (V m c main_v28) (side_index t _ _ _ (weights_block t).2.2.2.2.1 k e _ ?_ ?_ ?_)).trans (dtw_at m c _ k e)
  all_goals rfl

/-- The step biases a point reads. -/
theorem dtb_read (c : Dev nD) (t : Fin 32) (k : Fin 1) (e : Fin 1536) :
    iblk m c 6 t (ix3 0 k e) = (side m c (t.val / 16)).dtb e := by
  unfold iblk
  rw [View.read_apply]
  refine (congrArg (V m c main_v32) (side_index t _ _ _ (weights_block t).2.2.2.2.2.1 k e _ ?_ ?_ ?_)).trans (dtb_at m c _ k e)
  all_goals rfl

/-- The decay logarithms a point reads. -/
theorem al_read (c : Dev nD) (t : Fin 32) (k : Fin 16) (e : Fin 1536) :
    iblk m c 7 t (ix3 0 k e) = (side m c (t.val / 16)).al k e := by
  unfold iblk
  rw [View.read_apply]
  refine (congrArg (V m c main_v37) (side_index t _ _ _ (weights_block t).2.2.2.2.2.2.1 k e _ ?_ ?_ ?_)).trans (al_at m c _ k e)
  all_goals rfl

/-- The skip coefficients a point reads. -/
theorem dk_read (c : Dev nD) (t : Fin 32) (k : Fin 1) (e : Fin 1536) :
    iblk m c 8 t (ix3 0 k e) = (side m c (t.val / 16)).dk e := by
  unfold iblk
  rw [View.read_apply]
  refine (congrArg (V m c main_v41) (side_index t _ _ _ (weights_block t).2.2.2.2.2.2.2.1 k e _ ?_ ?_ ?_)).trans (dk_at m c _ k e)
  all_goals rfl

/-- The output projections a point reads. -/
theorem ow_read (c : Dev nD) (t : Fin 32) (k : Fin 1536) (e : Fin 768) :
    iblk m c 9 t (ix3 0 k e) = (side m c (t.val / 16)).ow k e := by
  unfold iblk
  rw [View.read_apply]
  refine (congrArg (V m c main_v47) (side_index t _ _ _ (weights_block t).2.2.2.2.2.2.2.2 k e _ ?_ ?_ ?_)).trans (ow_at m c _ k e)
  all_goals rfl

/-- The weights a point reads are those of its direction. -/
theorem weights_read (c : Dev nD) (t : Fin 32) :
    Holds (side m c (t.val / 16)) (iblk m c 1 t) (iblk m c 2 t) (iblk m c 3 t) (iblk m c 4 t) (iblk m c 5 t)
      (iblk m c 6 t) (iblk m c 7 t) (iblk m c 8 t) (iblk m c 9 t) where
  inw := inw_read m c t
  cw := cw_read m c t
  cb := cb_read m c t 0
  xp := xp_read m c t
  dtw := dtw_read m c t
  dtb := dtb_read m c t 0
  al := al_read m c t
  dk := dk_read m c t 0
  ow := ow_read m c t

end Cert.KernelIdeal.Value

end
-- ==== Proof.AllChunks.lean ====
module

public import proofs.«01_k».proof.Proof.Blocks

@[expose] public section

set_option maxRecDepth 16384

/-!
# All the chunks

The eight chunks of a row are run one after another, each starting from what the one before left in the scratch: the
last three padded inputs and the running state. By induction along the grid every point leaves in its output block the
layer's outputs at its tokens.
-/

noncomputable section

namespace Cert.KernelIdeal.Value

open Idealize.ShloMosaic Idealize.ShloMosaic.TcCoe Idealize.ShloMosaic.Tactic
open Cert.KernelIdeal Cert.KernelIdeal.Gen Cert.KernelIdeal.Body Cert.Mamba

variable (m : (ℓ : Loc nD τ sig) → Buf (Elt Ideal) ℓ)

/-- What a point leaves behind, for weights `W`, tokens `X` and a chunk starting at token `s`: the layer's outputs, the
    last padded inputs and the running state. -/
def Left (W : Weights) (X : ℕ → Fin 768 → EReal) (s : ℕ)
    (v : Vec Ideal S1x128x768 .f32 × Vec Ideal S136x1536 .f32 × Vec Ideal S16x1536 .f32) : Prop :=
  (∀ q r o, v.1 (ix3 q r o) = layer W X (s + r.val) o) ∧
  (∀ j : Fin 136, 5 ≤ j.val → j.val < 8 → ∀ d, v.2.1 (ix2 j d) = Mamba.pad W X (s + 128 + (j.val - 5)) d) ∧
  ∀ n d, v.2.2 (ix2 n d) = state W (Mamba.pad W X) (s + 128) n d

section Points

variable (c : Dev nD) (i : grid0.Coords) (arg2 : Memref sig .tc .vmem S1x128x768 .f32) (harg2 : arg2.IsWhole) (arg3 : Memref sig .tc .vmem S1x768x3072 .bf16) (harg3 : arg3.IsWhole) (arg4 : Memref sig .tc .vmem S1x4x1536 .f32) (harg4 : arg4.IsWhole) (arg5 : Memref sig .tc .vmem S1x1x1536 .f32) (harg5 : arg5.IsWhole) (arg6 : Memref sig .tc .vmem S1x1536x80 .bf16) (harg6 : arg6.IsWhole) (arg7 : Memref sig .tc .vmem S1x48x1536 .bf16) (harg7 : arg7.IsWhole) (arg8 : Memref sig .tc .vmem S1x1x1536 .f32) (harg8 : arg8.IsWhole) (arg9 : Memref sig .tc .vmem S1x16x1536 .f32) (harg9 : arg9.IsWhole) (arg10 : Memref sig .tc .vmem S1x1x1536 .f32) (harg10 : arg10.IsWhole) (arg11 : Memref sig .tc .vmem S1x1536x768 .bf16) (harg11 : arg11.IsWhole) (arg12 : Memref sig .tc .vmem S1x128x768 .f32) (harg12 : arg12.IsWhole) (arg13 : Memref sig .tc .vmem S136x1536 .f32) (harg13 : arg13.IsWhole) (arg14 : Memref sig .tc .vmem S128x16x1536 .f32) (harg14 : arg14.IsWhole) (arg15 : Memref sig .tc .vmem S128x16x1536 .f32) (harg15 : arg15.IsWhole) (arg16 : Memref sig .tc .vmem S16x1536 .f32) (harg16 : arg16.IsWhole)
    (x0 : Vec Ideal S1x128x768 .f32) (x1 : Vec Ideal S1x768x3072 .bf16) (x2 : Vec Ideal S1x4x1536 .f32)
    (x3 : Vec Ideal S1x1x1536 .f32) (x4 : Vec Ideal S1x1536x80 .bf16) (x5 : Vec Ideal S1x48x1536 .bf16)
    (x6 : Vec Ideal S1x1x1536 .f32) (x7 : Vec Ideal S1x16x1536 .f32) (x8 : Vec Ideal S1x1x1536 .f32)
    (x9 : Vec Ideal S1x1536x768 .bf16) (W : Weights)
    (hW : Holds W x1 x2 x3 x4 x5 x6 x7 x8 x9) (X : ℕ → Fin 768 → EReal)
    (s : ℕ) (hx : ∀ (r : Fin 128) k, x0 (ix3 0 r k) = X (s + r.val) k)

include hW hx

/-- What a row's first chunk leaves. -/
theorem left_A (hc0 : cond0_0 i) (hs : s = 0) :
    Left W X s (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9,
      sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9,
      sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) := by
  unfold Left
  dsimp only
  exact ⟨out_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hW X s hx hc0 hs,
    tail_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hW X s hx hc0 hs,
    state_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hW X s hx hc0 hs⟩

/-- What a later chunk leaves, from what it finds. -/
theorem left_B (hc0 : ¬cond0_0 i) (xs0 : Vec Ideal S136x1536 .f32) (xs3 : Vec Ideal S16x1536 .f32)
    (hs0 : ∀ j : Fin 136, 5 ≤ j.val → j.val < 8 → ∀ d, xs0 (ix2 j d) = Mamba.pad W X (s + (j.val - 5)) d)
    (hs3 : ∀ n d, xs3 (ix2 n d) = state W (Mamba.pad W X) s n d) :
    Left W X s (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3,
      sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3,
      sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs3) := by
  unfold Left
  dsimp only
  exact ⟨out_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hW X s hx hc0 xs0 xs3 hs0 hs3,
    tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hW X s hx hc0 xs0 xs3 hs0,
    state_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hW X s hx hc0 xs0 xs3 hs0 hs3⟩

end Points

/-- The first chunk of a row. -/
theorem left_first (c : Dev nD) (t : Fin cfg0.N) (h0 : t.val % 8 = 0) :
    Left (side m c (t.val / 16)) (seq m c (t.val / 8)) (128 * (t.val % 8)) (outsAt0 m c t.val t.isLt) := by
  rw [outsAt0_A m c t h0]
  exact left_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (side m c (t.val / 16)) (weights_read m c t) (seq m c (t.val / 8))
    (128 * (t.val % 8)) (tokens_read m c t) ((hcond0_0 t).mpr h0) (by omega)

/-- A later chunk, from what the chunk before left. -/
theorem left_next (c : Dev nD) (t : Fin cfg0.N) (h0 : ¬t.val % 8 = 0)
    (ih : Left (side m c (t.val / 16)) (seq m c (t.val / 8)) (128 * ((t.val - 1) % 8))
      (outsAt0 m c (t.val - 1) (Nat.lt_of_le_of_lt (Nat.sub_le _ _) t.isLt))) :
    Left (side m c (t.val / 16)) (seq m c (t.val / 8)) (128 * (t.val % 8)) (outsAt0 m c t.val t.isLt) := by
  have hs : 128 * ((t.val - 1) % 8) + 128 = 128 * (t.val % 8) := by omega
  obtain ⟨-, ih1, ih2⟩ := ih
  rw [hs] at ih1 ih2
  rw [outsAt0_B m c t h0]
  exact left_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (side m c (t.val / 16)) (weights_read m c t) (seq m c (t.val / 8))
    (128 * (t.val % 8)) (tokens_read m c t) (fun h => h0 ((hcond0_0 t).mp h)) _ _ ih1 ih2

/-- Every point leaves what it should. -/
theorem left_all (c : Dev nD) : ∀ (n : ℕ) (hn : n < cfg0.N),
    Left (side m c (n / 16)) (seq m c (n / 8)) (128 * (n % 8)) (outsAt0 m c n hn) := by
  intro n
  induction n with
  | zero => exact fun hn => left_first m c ⟨0, hn⟩ rfl
  | succ n ih =>
    intro hn
    by_cases h0 : (n + 1) % 8 = 0
    · exact left_first m c ⟨n + 1, hn⟩ h0
    · have e := ih (Nat.lt_of_succ_lt hn)
      rw [show n / 16 = (n + 1) / 16 by omega, show n / 8 = (n + 1) / 8 by omega] at e
      exact left_next m c ⟨n + 1, hn⟩ h0 e

end Cert.KernelIdeal.Value

end
-- ==== Proof.KernelValue.lean ====
module

public import proofs.«01_k».proof.Proof.AllChunks
public import Idealize.ShloMosaic.Lib.Pipeline.ValueKit

@[expose] public section

set_option maxRecDepth 16384

/-!
# The kernel's result

The blocks the grid leaves make up one array, four rows of 1024 tokens; the host then takes the rows of each direction
apart, reverses the backward ones, and adds the two.
-/

noncomputable section

namespace Cert.KernelIdeal.Value

open Idealize.ShloMosaic Idealize.ShloMosaic.TcCoe Idealize.ShloMosaic.Tactic
open Cert.KernelIdeal Cert.KernelIdeal.Gen Cert.KernelIdeal.Body Cert.Mamba

variable (m : (ℓ : Loc nD τ sig) → Buf (Elt Ideal) ℓ) (ρ : Dev nD → PrngReg)

/-- The array the grid fills: at row `g`, the layer of direction `g / 2` over the row's tokens. -/
def rowsOut (c : Dev nD) : Buf (Elt Ideal) ((c : Thread nD τ).loc main_v48) :=
  fun i : (⟨3, ![4, 1024, 768]⟩ : Shape).Idx => layer (side m c ((i 0).val / 2)) (seq m c (i 0).val) (i 1).val (i 2)

/-- The array at an index. -/
theorem rowsOut_at (c : Dev nD) (g : Fin 4) (l : Fin 1024) (o : Fin 768) :
    rowsOut m c (ix3 g l o) = layer (side m c (g.val / 2)) (seq m c g.val) l.val o := rfl

/-- The array under a point's block: token `128 * (t % 8) + r` of row `t / 8`. -/
theorem rowsOut_block (c : Dev nD) (t : Fin 32) (q : Fin 1) (r : Fin 128) (o : Fin 768) :
    rowsOut m c ((win0_10.blk t).view.emb (ix3 q r o))
      = layer (side m c (t.val / 16)) (seq m c (t.val / 8)) (128 * (t.val % 8) + r.val) o := by
  have e : ((win0_10.blk t).view.emb (ix3 q r o) : (⟨3, ![4, 1024, 768]⟩ : Shape).Idx)
      = ix3 ⟨t.val / 8, by omega⟩ ⟨128 * (t.val % 8) + r.val, by omega⟩ o := by
    funext a
    apply Fin.ext
    match a with
    | ⟨0, _⟩ =>
      show win0_10.index t 0 * 1 + 1 * q.val = t.val / 8
      rw [(result_block t).1]; omega
    | ⟨1, _⟩ =>
      show win0_10.index t 1 * 128 + 1 * r.val = 128 * (t.val % 8) + r.val
      rw [(result_block t).2.1]; omega
    | ⟨2, _⟩ => show win0_10.index t 2 * 768 + 1 * o.val = o.val; rw [(result_block t).2.2]; omega
  refine (congrArg (rowsOut m c) e).trans ?_
  rw [rowsOut_at]
  show layer (side m c (t.val / 8 / 2)) (seq m c (t.val / 8)) (128 * (t.val % 8) + r.val) o = _
  rw [show t.val / 8 / 2 = t.val / 16 by omega]

/-- The filled array. -/
theorem filled (c : Dev nD) : (dats m 0 c).arrAt 10 cfg0.N = rowsOut m c := by
  refine (dats m 0 c).arrAt_eq_of_covers 10 _ (by decide +kernel) fun t hf y => ?_
  blk_simp
  rw [after0_10]
  have hy : y = (ix3 (y 0) (y 1) (y 2) : (⟨3, ![1, 128, 768]⟩ : Shape).Idx) := by
    funext a
    match a with
    | ⟨0, _⟩ => rfl
    | ⟨1, _⟩ => rfl
    | ⟨2, _⟩ => rfl
  exact (congrArg (outsAt0 m c t.val t.isLt).1 hy).trans (((left_all m c t.val t.isLt).1 (y 0) (y 1) (y 2)).trans
    ((rowsOut_block m c t (y 0) (y 1) (y 2)).symm.trans
      (congrArg (fun z => rowsOut m c ((win0_10.blk t).view.emb z)) hy.symm)))

theorem side_fwd (c : Dev nD) (b : Fin 2) : side m c (b.val / 2) = fwd m c := by
  unfold side
  rw [if_pos (by omega)]

theorem side_bwd (c : Dev nD) (b : Fin 2) : side m c ((2 + b.val) / 2) = bwd m c := by
  unfold side
  rw [if_neg (by omega)]

theorem seq_fwd (c : Dev nD) (b : Fin 2) : seq m c b.val = rows (m ((c : Thread nD τ).loc main_arg0)) b := by
  unfold seq
  rw [if_pos b.isLt]
  congr 1
  exact Fin.ext (Nat.mod_eq_of_lt b.isLt)

theorem seq_bwd (c : Dev nD) (b : Fin 2) : seq m c (2 + b.val) = rowsRev (m ((c : Thread nD τ).loc main_arg0)) b := by
  unfold seq
  rw [if_neg (by omega)]
  congr 1
  exact Fin.ext (show (2 + b.val) % 2 = b.val by omega)

/-- What the host leaves in the result's buffer. -/
theorem result_at (c : Dev nD) (b : Fin 2) (l : Fin 1024) (o : Fin 768) :
    Pipeline.afterTail₀ cfgs (dats m) 0 (V0 m) [hostOps1, hostOps1_1, hostOps1_2] c main_v55 (ix3 b l o)
      = layer (fwd m c) (rows (m ((c : Thread nD τ).loc main_arg0)) b) l.val o
        + layer (bwd m c) (rowsRev (m ((c : Thread nD τ).loc main_arg0)) b) (1023 - l.val) o := by
  have hw : Pipeline.withArrays (cfgs 0).spec c (V0 m c) (fun w => (dats m 0 c).arrAt w (cfgs 0).N)
      (Proc.devRef .tc main_v48) = rowsOut m c :=
    (Pipeline.withArrays_arr spec0 (by decide) c (V0 m c) (fun w => (dats m 0 c).arrAt w (cfgs 0).N) 10).trans (filled m c)
  unfold Pipeline.afterTail₀
  after_reads_at
  rw [hw, rowsOut_at]
  simp only [List.mem_singleton, zero_ne_one, Fin.reduceEq, ↓reduceIte]
  rw [rowsOut_at]
  have ef : layer (side m c (b.val / 2)) (seq m c b.val) l.val o
      = layer (fwd m c) (rows (m ((c : Thread nD τ).loc main_arg0)) b) l.val o := by
    rw [side_fwd, seq_fwd]
  have eb : layer (side m c ((2 + b.val) / 2)) (seq m c (2 + b.val)) (1024 - (l.val + 1)) o
      = layer (bwd m c) (rowsRev (m ((c : Thread nD τ).loc main_arg0)) b) (1023 - l.val) o := by
    rw [side_bwd, seq_bwd, show 1024 - (l.val + 1) = 1023 - l.val by omega]
  exact congrArg₂ (fun x y : EReal => x + y) ef eb

/-- The run: the result's buffer ends as the host leaves it. -/
theorem run : θ_run defs (onTc (τ := τ) (main (F := Ideal))) ⟨m, fun _ => 0, ρ⟩ (fun r => ∀ c : Dev nD,
    r.2.mem ((c.tc : Thread nD τ).loc main_v55)
      = Pipeline.afterTail₀ cfgs (dats m) 0 (V0 m) [hostOps1, hostOps1_1, hostOps1_2] c main_v55) := by
  have hr := run_main m ρ
  refine (θ_run defs _ _).mono (fun r h c => ?_) hr
  have hb : main_v55 ∈ Pipeline.restRefs sig (cfgs 0).spec :=
    Pipeline.mem_restRefs_of main_v55 (by decide) (by decide)
  exact (h c).2 main_v55 hb

end Cert.KernelIdeal.Value

end
-- ==== Proof.ReferenceTokens.lean ====
/-
  What the reference computes before its loop, read at an index and over the extended reals, as the functions of
  Proof/Spec.lean.
-/
module

public import proofs.«01_k».proof.Proof.Spec
public import proofs.«01_k».proof.Proof.Gen.ReferenceIdeal.Step
public import Idealize.ShloMosaic.Lib.Pointwise

@[expose] public section

set_option maxRecDepth 16384

noncomputable section

namespace Cert.ReferenceIdeal.Value

open Idealize.ShloMosaic Cert.ReferenceIdeal Cert.ReferenceIdeal.Step Cert.Mamba

variable (a0 : FVec Ideal S2x1024x768 .f32) (a1 : FVec Ideal S3072x768 .f32) (a2 : FVec Ideal S1536x4 .f32) (a3 : FVec Ideal S1536 .f32) (a4 : FVec Ideal S80x1536 .f32) (a5 : FVec Ideal S1536x48 .f32) (a6 : FVec Ideal S1536 .f32) (a7 : FVec Ideal S1536x16 .f32) (a10 : FVec Ideal S3072x768 .f32) (a11 : FVec Ideal S1536x4 .f32) (a12 : FVec Ideal S1536 .f32) (a13 : FVec Ideal S80x1536 .f32) (a14 : FVec Ideal S1536x48 .f32) (a15 : FVec Ideal S1536 .f32) (a16 : FVec Ideal S1536x16 .f32)

/-- The weights of the forward direction: the arrays the values before the loop read, and the last two. -/
abbrev wts (a1 : FVec Ideal S3072x768 .f32) (a2 : FVec Ideal S1536x4 .f32) (a3 : FVec Ideal S1536 .f32)
    (a4 : FVec Ideal S80x1536 .f32) (a5 : FVec Ideal S1536x48 .f32) (a6 : FVec Ideal S1536 .f32)
    (a7 : FVec Ideal S1536x16 .f32) (a8 : FVec Ideal S1536 .f32) (a9 : FVec Ideal S768x1536 .f32) : Weights :=
  Weights.ofArrays a1 a2 a3 a4 a5 a6 a7 a8 a9

variable (a8 : FVec Ideal S1536 .f32) (a9 : FVec Ideal S768x1536 .f32)

/-- The padded projected rows. -/
theorem v3_at (b : Fin 2) (r : Fin 1027) (d : Fin 1536) :
    A_main_v3 (F := Ideal) a0 a1 a2 a3 a4 a5 a6 a7 a10 a11 a12 a13 a14 a15 a16 (ix3 b r d) = pad (wts a1 a2 a3 a4 a5 a6 a7 a8 a9) (rows a0 b) r.val d := by
  pointwise [A_main_v3, A_main_v1, A_main_v0, K_main_call0_v0, K_main_c]
  unfold Mamba.pad
  by_cases h : r.val < 3
  · rw [dif_neg (by omega), if_pos h]
    show (((0#32 : BitVec 32).toInt : ℝ) : EReal) = 0
    simp
  · rw [dif_pos ⟨by omega, by omega⟩, if_neg h]
    exact Finset.sum_congr rfl fun k _ => congrArg (· * _) (rows_val a0 b ⟨r.val - 3, by omega⟩ k).symm

/-- The gates. -/
theorem v2_at (b : Fin 2) (l : Fin 1024) (d : Fin 1536) :
    A_main_v2 (F := Ideal) a0 a1 a2 a3 a4 a5 a6 a7 a10 a11 a12 a13 a14 a15 a16 (ix3 b l d) = gate (wts a1 a2 a3 a4 a5 a6 a7 a8 a9) (rows a0 b l.val) d := by
  pointwise [A_main_v2, A_main_v0]
  refine Finset.sum_congr rfl fun k _ => congrArg (· * _) ?_
  exact (rows_val a0 b l k).symm

/-- The convolution. -/
theorem v35_at (b : Fin 2) (l : Fin 1024) (d : Fin 1536) :
    A_main_v35 (F := Ideal) a0 a1 a2 a3 a4 a5 a6 a7 a10 a11 a12 a13 a14 a15 a16 (ix3 b l d)
      = conv (wts a1 a2 a3 a4 a5 a6 a7 a8 a9) (pad (wts a1 a2 a3 a4 a5 a6 a7 a8 a9) (rows a0 b)) l.val d := by
  pointwise [A_main_v35, A_main_v34, A_main_v33, A_main_v32, A_main_v31, A_main_v30, A_main_v29, A_main_v28,
    A_main_v27, A_main_v26, A_main_v25, A_main_v24, A_main_v23, A_main_v22, A_main_v21, A_main_v20, A_main_v19,
    A_main_v18, A_main_v17, A_main_v16, A_main_v15, A_main_v14, A_main_v13, A_main_v12, A_main_v11, A_main_v9,
    A_main_v8, A_main_v7, A_main_v6, A_main_v5, A_main_v4, K_main_v10, K_main_cst]
  simp only [v3_at a0 a1 a2 a3 a4 a5 a6 a7 a10 a11 a12 a13 a14 a15 a16 a8 a9]
  rw [Nat.add_comm 1 l.val, Nat.add_comm 2 l.val, Nat.add_comm 3 l.val]
  rfl

/-- The activated convolution. -/
theorem v36_at (b : Fin 2) (l : Fin 1024) (d : Fin 1536) :
    A_main_v36 (F := Ideal) a0 a1 a2 a3 a4 a5 a6 a7 a10 a11 a12 a13 a14 a15 a16 (ix3 b l d)
      = act (wts a1 a2 a3 a4 a5 a6 a7 a8 a9) (pad (wts a1 a2 a3 a4 a5 a6 a7 a8 a9) (rows a0 b)) l.val d := by
  pointwise [A_main_v36, A_main_call1_v5, A_main_call1_v3, A_main_call1_v1, A_main_call1_v0, K_main_call1_v2,
    K_main_call1_v4, K_main_call1_cst, K_main_call1_cst_0]
  simp only [v35_at a0 a1 a2 a3 a4 a5 a6 a7 a10 a11 a12 a13 a14 a15 a16 a8 a9]
  rfl

/-- The second projection. -/
theorem v37_at (b : Fin 2) (l : Fin 1024) (j : Fin 80) :
    A_main_v37 (F := Ideal) a0 a1 a2 a3 a4 a5 a6 a7 a10 a11 a12 a13 a14 a15 a16 (ix3 b l j)
      = mix (wts a1 a2 a3 a4 a5 a6 a7 a8 a9) (pad (wts a1 a2 a3 a4 a5 a6 a7 a8 a9) (rows a0 b)) l.val j := by
  pointwise [A_main_v37]
  simp only [v36_at a0 a1 a2 a3 a4 a5 a6 a7 a10 a11 a12 a13 a14 a15 a16 a8 a9]
  rfl

/-- The step size before the softplus. -/
theorem v44_at (b : Fin 2) (l : Fin 1024) (d : Fin 1536) :
    A_main_v44 (F := Ideal) a0 a1 a2 a3 a4 a5 a6 a7 a10 a11 a12 a13 a14 a15 a16 (ix3 b l d)
      = pre (wts a1 a2 a3 a4 a5 a6 a7 a8 a9) (pad (wts a1 a2 a3 a4 a5 a6 a7 a8 a9) (rows a0 b)) l.val d := by
  pointwise [A_main_v44, A_main_v43, A_main_v42, A_main_v41, A_main_v38]
  simp only [v37_at a0 a1 a2 a3 a4 a5 a6 a7 a10 a11 a12 a13 a14 a15 a16 a8 a9]
  rfl

/-- The step size. -/
theorem v45_at (b : Fin 2) (l : Fin 1024) (d : Fin 1536) :
    A_main_v45 (F := Ideal) a0 a1 a2 a3 a4 a5 a6 a7 a10 a11 a12 a13 a14 a15 a16 (ix3 b l d)
      = delta (wts a1 a2 a3 a4 a5 a6 a7 a8 a9) (pad (wts a1 a2 a3 a4 a5 a6 a7 a8 a9) (rows a0 b)) l.val d := by
  pointwise [A_main_v45, A_main_call2_v1, A_main_call2_v3, A_main_call2_v4, A_main_call2_v6, A_main_call2_v7,
    A_main_call2_v8, A_main_call2_v9, A_main_call2_v10, A_main_call2_v11, K_main_call2_v0, K_main_call2_v2, K_main_call2_v5, K_main_call2_cst]
  simp only [v44_at a0 a1 a2 a3 a4 a5 a6 a7 a10 a11 a12 a13 a14 a15 a16 a8 a9]
  rw [if_neg (not_not.mpr rfl)]
  rfl

/-- The factors of the recurrence, token first. -/
theorem v62_at (l : Fin 1024) (b : Fin 2) (d : Fin 1536) (n : Fin 16) :
    A_main_v62 (F := Ideal) a0 a1 a2 a3 a4 a5 a6 a7 a10 a11 a12 a13 a14 a15 a16 (ix4 l b d n)
      = decay (wts a1 a2 a3 a4 a5 a6 a7 a8 a9) (pad (wts a1 a2 a3 a4 a5 a6 a7 a8 a9) (rows a0 b)) l.val n d := by
  pointwise [A_main_v62, A_main_v53, A_main_v52, A_main_v51, A_main_v50, A_main_v49, A_main_v48, A_main_v47, A_main_v46]
  simp only [v45_at a0 a1 a2 a3 a4 a5 a6 a7 a10 a11 a12 a13 a14 a15 a16 a8 a9]
  rfl

/-- The terms of the recurrence, token first. -/
theorem v63_at (l : Fin 1024) (b : Fin 2) (d : Fin 1536) (n : Fin 16) :
    A_main_v63 (F := Ideal) a0 a1 a2 a3 a4 a5 a6 a7 a10 a11 a12 a13 a14 a15 a16 (ix4 l b d n)
      = feed (wts a1 a2 a3 a4 a5 a6 a7 a8 a9) (pad (wts a1 a2 a3 a4 a5 a6 a7 a8 a9) (rows a0 b)) l.val n d := by
  pointwise [A_main_v63, A_main_v61, A_main_v60, A_main_v59, A_main_v58, A_main_v57, A_main_v56, A_main_v55, A_main_v54, A_main_v39]
  simp only [v45_at a0 a1 a2 a3 a4 a5 a6 a7 a10 a11 a12 a13 a14 a15 a16 a8 a9, v36_at a0 a1 a2 a3 a4 a5 a6 a7 a10 a11 a12 a13 a14 a15 a16 a8 a9, v37_at a0 a1 a2 a3 a4 a5 a6 a7 a10 a11 a12 a13 a14 a15 a16 a8 a9]
  exact mul_right_comm _ _ _

/-- `C`, token first. -/
theorem v64_at (l : Fin 1024) (b : Fin 2) (n : Fin 16) :
    A_main_v64 (F := Ideal) a0 a1 a2 a3 a4 a5 a6 a7 a10 a11 a12 a13 a14 a15 a16 (ix3 l b n)
      = mix (wts a1 a2 a3 a4 a5 a6 a7 a8 a9) (pad (wts a1 a2 a3 a4 a5 a6 a7 a8 a9) (rows a0 b)) l.val ⟨64 + n.val, by omega⟩ := by
  pointwise [A_main_v64, A_main_v40]
  exact v37_at a0 a1 a2 a3 a4 a5 a6 a7 a10 a11 a12 a13 a14 a15 a16 a8 a9 b l _

/-- The activated convolution, token first. -/
theorem v65_at (l : Fin 1024) (b : Fin 2) (d : Fin 1536) :
    A_main_v65 (F := Ideal) a0 a1 a2 a3 a4 a5 a6 a7 a10 a11 a12 a13 a14 a15 a16 (ix3 l b d)
      = act (wts a1 a2 a3 a4 a5 a6 a7 a8 a9) (pad (wts a1 a2 a3 a4 a5 a6 a7 a8 a9) (rows a0 b)) l.val d := by
  pointwise [A_main_v65]
  exact v36_at a0 a1 a2 a3 a4 a5 a6 a7 a10 a11 a12 a13 a14 a15 a16 a8 a9 b l d

/-- The gates, token first. -/
theorem v66_at (l : Fin 1024) (b : Fin 2) (d : Fin 1536) :
    A_main_v66 (F := Ideal) a0 a1 a2 a3 a4 a5 a6 a7 a10 a11 a12 a13 a14 a15 a16 (ix3 l b d) = gate (wts a1 a2 a3 a4 a5 a6 a7 a8 a9) (rows a0 b l.val) d := by
  pointwise [A_main_v66]
  exact v2_at a0 a1 a2 a3 a4 a5 a6 a7 a10 a11 a12 a13 a14 a15 a16 a8 a9 b l d

end Cert.ReferenceIdeal.Value

end
-- ==== Proof.ReferenceLoop.lean ====
/-
  The reference's loop over the tokens, over the extended reals: what each trip leaves, and the result after the last.
-/
module

public import proofs.«01_k».proof.Proof.ReferenceTokens
public import Idealize.ShloMosaic.Lib.DynamicIndex

@[expose] public section

set_option maxRecDepth 16384

noncomputable section

namespace Cert.ReferenceIdeal.Value

open Idealize.ShloMosaic Cert.ReferenceIdeal Cert.ReferenceIdeal.Step Cert.Mamba

section Backward

/- The values before the loop that belong to the backward direction are those of the forward direction, of the
reversed rows and the backward weights. -/

variable (a0 : FVec Ideal S2x1024x768 .f32) (a1 : FVec Ideal S3072x768 .f32) (a2 : FVec Ideal S1536x4 .f32) (a3 : FVec Ideal S1536 .f32) (a4 : FVec Ideal S80x1536 .f32) (a5 : FVec Ideal S1536x48 .f32) (a6 : FVec Ideal S1536 .f32) (a7 : FVec Ideal S1536x16 .f32) (a10 : FVec Ideal S3072x768 .f32) (a11 : FVec Ideal S1536x4 .f32) (a12 : FVec Ideal S1536 .f32) (a13 : FVec Ideal S80x1536 .f32) (a14 : FVec Ideal S1536x48 .f32) (a15 : FVec Ideal S1536 .f32) (a16 : FVec Ideal S1536x16 .f32)

theorem v71_eq : A_main_v71 (F := Ideal) a0 a1 a2 a3 a4 a5 a6 a7 a10 a11 a12 a13 a14 a15 a16
    = A_main_v3 (Host.reverse [1] a0) a10 a11 a12 a13 a14 a15 a16 a10 a11 a12 a13 a14 a15 a16 := rfl

theorem v70_eq : A_main_v70 (F := Ideal) a0 a1 a2 a3 a4 a5 a6 a7 a10 a11 a12 a13 a14 a15 a16
    = A_main_v2 (Host.reverse [1] a0) a10 a11 a12 a13 a14 a15 a16 a10 a11 a12 a13 a14 a15 a16 := rfl

theorem v103_eq : A_main_v103 (F := Ideal) a0 a1 a2 a3 a4 a5 a6 a7 a10 a11 a12 a13 a14 a15 a16
    = A_main_v35 (Host.reverse [1] a0) a10 a11 a12 a13 a14 a15 a16 a10 a11 a12 a13 a14 a15 a16 := rfl

theorem v104_eq : A_main_v104 (F := Ideal) a0 a1 a2 a3 a4 a5 a6 a7 a10 a11 a12 a13 a14 a15 a16
    = A_main_v36 (Host.reverse [1] a0) a10 a11 a12 a13 a14 a15 a16 a10 a11 a12 a13 a14 a15 a16 := rfl

theorem v105_eq : A_main_v105 (F := Ideal) a0 a1 a2 a3 a4 a5 a6 a7 a10 a11 a12 a13 a14 a15 a16
    = A_main_v37 (Host.reverse [1] a0) a10 a11 a12 a13 a14 a15 a16 a10 a11 a12 a13 a14 a15 a16 := rfl

theorem v112_eq : A_main_v112 (F := Ideal) a0 a1 a2 a3 a4 a5 a6 a7 a10 a11 a12 a13 a14 a15 a16
    = A_main_v44 (Host.reverse [1] a0) a10 a11 a12 a13 a14 a15 a16 a10 a11 a12 a13 a14 a15 a16 := rfl

theorem v113_eq : A_main_v113 (F := Ideal) a0 a1 a2 a3 a4 a5 a6 a7 a10 a11 a12 a13 a14 a15 a16
    = A_main_v45 (Host.reverse [1] a0) a10 a11 a12 a13 a14 a15 a16 a10 a11 a12 a13 a14 a15 a16 := rfl

theorem v121_eq : A_main_v121 (F := Ideal) a0 a1 a2 a3 a4 a5 a6 a7 a10 a11 a12 a13 a14 a15 a16
    = A_main_v53 (Host.reverse [1] a0) a10 a11 a12 a13 a14 a15 a16 a10 a11 a12 a13 a14 a15 a16 := rfl

theorem v129_eq : A_main_v129 (F := Ideal) a0 a1 a2 a3 a4 a5 a6 a7 a10 a11 a12 a13 a14 a15 a16
    = A_main_v61 (Host.reverse [1] a0) a10 a11 a12 a13 a14 a15 a16 a10 a11 a12 a13 a14 a15 a16 := rfl

theorem v130_eq : A_main_v130 (F := Ideal) a0 a1 a2 a3 a4 a5 a6 a7 a10 a11 a12 a13 a14 a15 a16
    = A_main_v62 (Host.reverse [1] a0) a10 a11 a12 a13 a14 a15 a16 a10 a11 a12 a13 a14 a15 a16 := rfl

theorem v131_eq : A_main_v131 (F := Ideal) a0 a1 a2 a3 a4 a5 a6 a7 a10 a11 a12 a13 a14 a15 a16
    = A_main_v63 (Host.reverse [1] a0) a10 a11 a12 a13 a14 a15 a16 a10 a11 a12 a13 a14 a15 a16 := rfl

theorem v132_eq : A_main_v132 (F := Ideal) a0 a1 a2 a3 a4 a5 a6 a7 a10 a11 a12 a13 a14 a15 a16
    = A_main_v64 (Host.reverse [1] a0) a10 a11 a12 a13 a14 a15 a16 a10 a11 a12 a13 a14 a15 a16 := rfl

theorem v133_eq : A_main_v133 (F := Ideal) a0 a1 a2 a3 a4 a5 a6 a7 a10 a11 a12 a13 a14 a15 a16
    = A_main_v65 (Host.reverse [1] a0) a10 a11 a12 a13 a14 a15 a16 a10 a11 a12 a13 a14 a15 a16 := rfl

theorem v134_eq : A_main_v134 (F := Ideal) a0 a1 a2 a3 a4 a5 a6 a7 a10 a11 a12 a13 a14 a15 a16
    = A_main_v66 (Host.reverse [1] a0) a10 a11 a12 a13 a14 a15 a16 a10 a11 a12 a13 a14 a15 a16 := rfl

/-- The reversed rows are the rows, last to first. -/
theorem rows_reverse (b : Fin 2) : rows (Host.reverse [1] a0) b = rowsRev a0 b := by
  funext l k
  unfold rows rowsRev
  by_cases h : l < 1024
  · rw [dif_pos h, dif_pos h]
    pointwise []
    show a0 (ix3 b ⟨1024 - (l + 1), _⟩ k) = _
    exact congrArg (fun q => a0 (ix3 b q k)) (Fin.ext (by show 1024 - (l + 1) = 1023 - l; omega))
  · rw [dif_neg h, dif_neg h]

end Backward

section Trip

/- The starts of trip `j`'s slices, clamped: `j` on the axis of the trips, zero on the others. -/

theorem starts_state (j : ℕ) (hj : j < 1024) :
    Host.clampedStart S1024x2x1536x16 S1x2x1536x16 rfl (fun k => BitVec.toInt ((![constantI S_ 32 (BitVec.ofNat 32 j), constantI S_ 32 0#32, constantI S_ 32 0#32, constantI S_ 32 0#32] :
        Fin 4 → IVec S_ 32) k (Shape.Idx.first Gen.h_S_))) 0 = j ∧
    Host.clampedStart S1024x2x1536x16 S1x2x1536x16 rfl (fun k => BitVec.toInt ((![constantI S_ 32 (BitVec.ofNat 32 j), constantI S_ 32 0#32, constantI S_ 32 0#32, constantI S_ 32 0#32] :
        Fin 4 → IVec S_ 32) k (Shape.Idx.first Gen.h_S_))) 1 = 0 ∧
    Host.clampedStart S1024x2x1536x16 S1x2x1536x16 rfl (fun k => BitVec.toInt ((![constantI S_ 32 (BitVec.ofNat 32 j), constantI S_ 32 0#32, constantI S_ 32 0#32, constantI S_ 32 0#32] :
        Fin 4 → IVec S_ 32) k (Shape.Idx.first Gen.h_S_))) 2 = 0 ∧
    Host.clampedStart S1024x2x1536x16 S1x2x1536x16 rfl (fun k => BitVec.toInt ((![constantI S_ 32 (BitVec.ofNat 32 j), constantI S_ 32 0#32, constantI S_ 32 0#32, constantI S_ 32 0#32] :
        Fin 4 → IVec S_ 32) k (Shape.Idx.first Gen.h_S_))) 3 = 0 := by
  unfold Host.clampedStart
  refine ⟨?_, ?_, ?_, ?_⟩
  · show (min (max (BitVec.ofNat 32 j).toInt 0) ((1024 - 1 : ℕ) : Int)).toNat = j
    rw [toInt_ofNat_of_lt (by omega)]
    omega
  · show (min (max (0#32 : BitVec 32).toInt 0) ((2 - 2 : ℕ) : Int)).toNat = 0
    rw [BitVec.toInt_zero]
    omega
  · show (min (max (0#32 : BitVec 32).toInt 0) ((1536 - 1536 : ℕ) : Int)).toNat = 0
    rw [BitVec.toInt_zero]
    omega
  · show (min (max (0#32 : BitVec 32).toInt 0) ((16 - 16 : ℕ) : Int)).toNat = 0
    rw [BitVec.toInt_zero]
    omega

theorem starts_mix (j : ℕ) (hj : j < 1024) :
    Host.clampedStart S1024x2x16 S1x2x16 rfl (fun k => BitVec.toInt ((![constantI S_ 32 (BitVec.ofNat 32 j), constantI S_ 32 0#32, constantI S_ 32 0#32] :
        Fin 3 → IVec S_ 32) k (Shape.Idx.first Gen.h_S_))) 0 = j ∧
    Host.clampedStart S1024x2x16 S1x2x16 rfl (fun k => BitVec.toInt ((![constantI S_ 32 (BitVec.ofNat 32 j), constantI S_ 32 0#32, constantI S_ 32 0#32] :
        Fin 3 → IVec S_ 32) k (Shape.Idx.first Gen.h_S_))) 1 = 0 ∧
    Host.clampedStart S1024x2x16 S1x2x16 rfl (fun k => BitVec.toInt ((![constantI S_ 32 (BitVec.ofNat 32 j), constantI S_ 32 0#32, constantI S_ 32 0#32] :
        Fin 3 → IVec S_ 32) k (Shape.Idx.first Gen.h_S_))) 2 = 0 := by
  unfold Host.clampedStart
  refine ⟨?_, ?_, ?_⟩
  · show (min (max (BitVec.ofNat 32 j).toInt 0) ((1024 - 1 : ℕ) : Int)).toNat = j
    rw [toInt_ofNat_of_lt (by omega)]
    omega
  · show (min (max (0#32 : BitVec 32).toInt 0) ((2 - 2 : ℕ) : Int)).toNat = 0
    rw [BitVec.toInt_zero]
    omega
  · show (min (max (0#32 : BitVec 32).toInt 0) ((16 - 16 : ℕ) : Int)).toNat = 0
    rw [BitVec.toInt_zero]
    omega

theorem starts_row (j : ℕ) (hj : j < 1024) :
    Host.clampedStart S1024x2x1536 S1x2x1536 rfl (fun k => BitVec.toInt ((![constantI S_ 32 (BitVec.ofNat 32 j), constantI S_ 32 0#32, constantI S_ 32 0#32] :
        Fin 3 → IVec S_ 32) k (Shape.Idx.first Gen.h_S_))) 0 = j ∧
    Host.clampedStart S1024x2x1536 S1x2x1536 rfl (fun k => BitVec.toInt ((![constantI S_ 32 (BitVec.ofNat 32 j), constantI S_ 32 0#32, constantI S_ 32 0#32] :
        Fin 3 → IVec S_ 32) k (Shape.Idx.first Gen.h_S_))) 1 = 0 ∧
    Host.clampedStart S1024x2x1536 S1x2x1536 rfl (fun k => BitVec.toInt ((![constantI S_ 32 (BitVec.ofNat 32 j), constantI S_ 32 0#32, constantI S_ 32 0#32] :
        Fin 3 → IVec S_ 32) k (Shape.Idx.first Gen.h_S_))) 2 = 0 := by
  unfold Host.clampedStart
  refine ⟨?_, ?_, ?_⟩
  · show (min (max (BitVec.ofNat 32 j).toInt 0) ((1024 - 1 : ℕ) : Int)).toNat = j
    rw [toInt_ofNat_of_lt (by omega)]
    omega
  · show (min (max (0#32 : BitVec 32).toInt 0) ((2 - 2 : ℕ) : Int)).toNat = 0
    rw [BitVec.toInt_zero]
    omega
  · show (min (max (0#32 : BitVec 32).toInt 0) ((1536 - 1536 : ℕ) : Int)).toNat = 0
    rw [BitVec.toInt_zero]
    omega

variable (j : ℕ) (s : State Ideal)

/- What a trip slices out of the arrays the loop carries is the trip's entry. -/

theorem b4_at (hj : j < 1024) (b : Fin 2) (d : Fin 1536) (n : Fin 16) :
    b4 j s (ix3 b d n) = s.main_v138_0 (ix4 ⟨j, hj⟩ b d n) := by
  pointwise [b4, b3, b0, b1, b2]
  obtain ⟨h0, h1, h2, h3⟩ := starts_state j hj
  simp only [h0, h1, h2, h3, Nat.zero_add]

theorem b9_at (hj : j < 1024) (b : Fin 2) (d : Fin 1536) (n : Fin 16) :
    b9 j s (ix3 b d n) = s.main_v138_1 (ix4 ⟨j, hj⟩ b d n) :=
  b4_at j { s with main_v138_0 := s.main_v138_1 } hj b d n

theorem b13_at (hj : j < 1024) (b : Fin 2) (n : Fin 16) :
    b13 j s (ix2 b n) = s.main_v138_2 (ix3 ⟨j, hj⟩ b n) := by
  pointwise [b13, b12, b10, b11]
  obtain ⟨h0, h1, h2⟩ := starts_mix j hj
  simp only [h0, h1, h2, Nat.zero_add]

theorem b17_at (hj : j < 1024) (b : Fin 2) (d : Fin 1536) :
    b17 j s (ix2 b d) = s.main_v138_3 (ix3 ⟨j, hj⟩ b d) := by
  pointwise [b17, b16, b14, b15]
  obtain ⟨h0, h1, h2⟩ := starts_row j hj
  simp only [h0, h1, h2, Nat.zero_add]

theorem b21_at (hj : j < 1024) (b : Fin 2) (d : Fin 1536) :
    b21 j s (ix2 b d) = s.main_v138_4 (ix3 ⟨j, hj⟩ b d) :=
  b17_at j { s with main_v138_3 := s.main_v138_4 } hj b d

/-- The state after the trip. -/
theorem b45_at (hj : j < 1024) (b : Fin 2) (d : Fin 1536) (n : Fin 16) :
    b45 j s (ix3 b d n) = s.main_v138_0 (ix4 ⟨j, hj⟩ b d n) * s.main_v138_13 (ix3 b d n)
      + s.main_v138_1 (ix4 ⟨j, hj⟩ b d n) := by
  pointwise [b45, b44]
  rw [b4_at j s hj, b9_at j s hj]

/-- The row the trip writes. -/
theorem b60_at (hj : j < 1024) (b : Fin 2) (d : Fin 1536) :
    b60 j s (ix2 b d) = ((∑ n : Fin 16, b45 j s (ix3 b d n) * s.main_v138_2 (ix3 ⟨j, hj⟩ b n))
        + s.main_v138_3 (ix3 ⟨j, hj⟩ b d) * s.main_v138_10 (ix1 d))
      * (s.main_v138_4 (ix3 ⟨j, hj⟩ b d) * Ideal.logistic (s.main_v138_4 (ix3 ⟨j, hj⟩ b d))) := by
  pointwise [b60, b59, b58, b57, b56, b55, b54, b53, b52, b51, b50, b49, b48, b47, b46]
  simp only [b13_at j s hj, b17_at j s hj, b21_at j s hj]
  rfl

/-- The rows after the trip: the trip's own is written, the others are as they were. -/
theorem b81_at (hj : j < 1024) (l : Fin 1024) (b : Fin 2) (d : Fin 1536) :
    b81 j s (ix3 l b d) = if l.val = j then b60 j s (ix2 b d) else s.main_v138_15 (ix3 l b d) := by
  have hlt := l.isLt
  pointwise [b81, b78, b79, b80]
  obtain ⟨h0, h1, h2⟩ := starts_row j hj
  simp only [h0, h1, h2]
  by_cases h : l.val = j
  · rw [dif_pos ⟨by omega, by omega, by omega⟩, if_pos h]
    rfl
  · rw [dif_neg (by omega), if_neg h]

end Trip

/-- A state with the backward direction's parts in the forward direction's places. -/
def swap (s : State Ideal) : State Ideal :=
  { s with
    main_v138_13 := s.main_v138_14
    main_v138_15 := s.main_v138_16
    main_v138_0 := s.main_v138_5
    main_v138_1 := s.main_v138_6
    main_v138_2 := s.main_v138_7
    main_v138_3 := s.main_v138_8
    main_v138_4 := s.main_v138_9
    main_v138_10 := s.main_v138_11 }

/-- The backward direction's trip is the forward direction's, of the swapped state. -/
theorem b62_eq (j : ℕ) (s : State Ideal) : b62 j s = b45 j (swap s) := rfl

theorem b85_eq (j : ℕ) (s : State Ideal) : b85 j s = b81 j (swap s) := rfl

/-- A sequence of states goes through the forward direction's trips. -/
structure Trips (it : ℕ → State Ideal) : Prop where
  h : ∀ n, (it (n + 1)).main_v138_13 = b45 n (it n)
  ys : ∀ n, (it (n + 1)).main_v138_15 = b81 n (it n)
  a : ∀ n, (it n).main_v138_0 = (it 0).main_v138_0
  g : ∀ n, (it n).main_v138_1 = (it 0).main_v138_1
  C : ∀ n, (it n).main_v138_2 = (it 0).main_v138_2
  u : ∀ n, (it n).main_v138_3 = (it 0).main_v138_3
  z : ∀ n, (it n).main_v138_4 = (it 0).main_v138_4
  D : ∀ n, (it n).main_v138_10 = (it 0).main_v138_10

/-- A state holds, for each batch `b`, the tokens of the rows `X b` under the weights `W`, before any trip. -/
structure Starts (s : State Ideal) (W : Weights) (X : Fin 2 → ℕ → Fin 768 → EReal) : Prop where
  h : ∀ b d n, s.main_v138_13 (ix3 b d n) = 0
  a : ∀ (l : Fin 1024) b d n, s.main_v138_0 (ix4 l b d n) = decay W (pad W (X b)) l.val n d
  g : ∀ (l : Fin 1024) b d n, s.main_v138_1 (ix4 l b d n) = feed W (pad W (X b)) l.val n d
  C : ∀ (l : Fin 1024) b n, s.main_v138_2 (ix3 l b n) = mix W (pad W (X b)) l.val ⟨64 + n.val, by omega⟩
  u : ∀ (l : Fin 1024) b d, s.main_v138_3 (ix3 l b d) = act W (pad W (X b)) l.val d
  z : ∀ (l : Fin 1024) b d, s.main_v138_4 (ix3 l b d) = gate W (X b l.val) d
  D : ∀ d, s.main_v138_10 (ix1 d) = W.dk d

variable {it : ℕ → State Ideal} {W : Weights} {X : Fin 2 → ℕ → Fin 768 → EReal}

/-- Before trip `n` the loop carries the state before token `n`. -/
theorem carried (ht : Trips it) (hs : Starts (it 0) W X) :
    ∀ n, n ≤ 1024 → ∀ b d k, (it n).main_v138_13 (ix3 b d k) = state W (pad W (X b)) n k d
  | 0, _, b, d, k => hs.h b d k
  | n + 1, hn, b, d, k => by
    rw [ht.h, b45_at n (it n) (by omega), ht.a, ht.g, hs.a, hs.g, carried ht hs n (by omega), state_succ]

/-- The row trip `n` writes: the token's gated read-out. -/
theorem written (ht : Trips it) (hs : Starts (it 0) W X) (n : ℕ) (hn : n < 1024) (b : Fin 2) (d : Fin 1536) :
    b60 n (it n) (ix2 b d) = readout W (pad W (X b)) (state W (pad W (X b)) (n + 1)) n d
      * (gate W (X b n) d * Ideal.logistic (gate W (X b n) d)) := by
  rw [b60_at n (it n) hn, ← ht.h]
  simp only [carried ht hs (n + 1) (by omega), ht.C, ht.u, ht.z, ht.D, hs.C, hs.u, hs.z, hs.D]
  rfl

/-- Before trip `n` the first `n` rows are written. -/
theorem rows_written (ht : Trips it) (hs : Starts (it 0) W X) :
    ∀ n, n ≤ 1024 → ∀ (l : Fin 1024), l.val < n → ∀ b d, (it n).main_v138_15 (ix3 l b d)
      = readout W (pad W (X b)) (state W (pad W (X b)) (l.val + 1)) l.val d
        * (gate W (X b l.val) d * Ideal.logistic (gate W (X b l.val) d))
  | 0, _, l, hl, _, _ => absurd hl (Nat.not_lt_zero _)
  | n + 1, hn, l, hl, b, d => by
    rw [ht.ys, b81_at n (it n) (by omega)]
    by_cases h : l.val = n
    · rw [if_pos h, written ht hs n (by omega), h]
    · rw [if_neg h]
      exact rows_written ht hs n (by omega) l (by omega) b d

end Cert.ReferenceIdeal.Value

end
-- ==== Proof.ReferenceValue.lean ====
/-
  The reference's result, read at an index and over the extended reals: the forward layer's value of the row plus the
  backward layer's, of the rows taken last to first.
-/
module

public import proofs.«01_k».proof.Proof.ReferenceLoop

@[expose] public section

set_option maxRecDepth 16384

noncomputable section

namespace Cert.ReferenceIdeal.Value

open Idealize.ShloMosaic Cert.ReferenceIdeal Cert.ReferenceIdeal.Step Cert.Mamba

variable (a0 : FVec Ideal S2x1024x768 .f32) (a1 : FVec Ideal S3072x768 .f32) (a2 : FVec Ideal S1536x4 .f32) (a3 : FVec Ideal S1536 .f32) (a4 : FVec Ideal S80x1536 .f32) (a5 : FVec Ideal S1536x48 .f32) (a6 : FVec Ideal S1536 .f32) (a7 : FVec Ideal S1536x16 .f32) (a8 : FVec Ideal S1536 .f32) (a9 : FVec Ideal S768x1536 .f32) (a10 : FVec Ideal S3072x768 .f32) (a11 : FVec Ideal S1536x4 .f32) (a12 : FVec Ideal S1536 .f32) (a13 : FVec Ideal S80x1536 .f32) (a14 : FVec Ideal S1536x48 .f32) (a15 : FVec Ideal S1536 .f32) (a16 : FVec Ideal S1536x16 .f32) (a17 : FVec Ideal S1536 .f32) (a18 : FVec Ideal S768x1536 .f32)

/-- The state before the loop, in the forward direction. -/
theorem starts_fwd : Starts (init (F := Ideal) a8 a17 a0 a1 a2 a3 a4 a5 a6 a7 a10 a11 a12 a13 a14 a15 a16) (wts a1 a2 a3 a4 a5 a6 a7 a8 a9) (fun b => rows a0 b) where
  h b d n := by
    show K_main_v135 (F := Ideal) (ix3 b d n) = 0
    pointwise [K_main_v135, K_main_cst_2]
  a l b d n := v62_at a0 a1 a2 a3 a4 a5 a6 a7 a10 a11 a12 a13 a14 a15 a16 a8 a9 l b d n
  g l b d n := v63_at a0 a1 a2 a3 a4 a5 a6 a7 a10 a11 a12 a13 a14 a15 a16 a8 a9 l b d n
  C l b n := v64_at a0 a1 a2 a3 a4 a5 a6 a7 a10 a11 a12 a13 a14 a15 a16 a8 a9 l b n
  u l b d := v65_at a0 a1 a2 a3 a4 a5 a6 a7 a10 a11 a12 a13 a14 a15 a16 a8 a9 l b d
  z l b d := v66_at a0 a1 a2 a3 a4 a5 a6 a7 a10 a11 a12 a13 a14 a15 a16 a8 a9 l b d
  D d := rfl

/-- The state before the loop, in the backward direction. -/
theorem starts_bwd : Starts (swap (init (F := Ideal) a8 a17 a0 a1 a2 a3 a4 a5 a6 a7 a10 a11 a12 a13 a14 a15 a16)) (wts a10 a11 a12 a13 a14 a15 a16 a17 a18)
    (fun b => rowsRev a0 b) where
  h b d n := by
    show K_main_v135 (F := Ideal) (ix3 b d n) = 0
    pointwise [K_main_v135, K_main_cst_2]
  a l b d n := by
    rw [← rows_reverse a0 b]
    exact (congrFun (v130_eq a0 a1 a2 a3 a4 a5 a6 a7 a10 a11 a12 a13 a14 a15 a16) _).trans (v62_at (Host.reverse [1] a0) a10 a11 a12 a13 a14 a15 a16 a10 a11 a12 a13 a14 a15 a16 a17 a18 l b d n)
  g l b d n := by
    rw [← rows_reverse a0 b]
    exact (congrFun (v131_eq a0 a1 a2 a3 a4 a5 a6 a7 a10 a11 a12 a13 a14 a15 a16) _).trans (v63_at (Host.reverse [1] a0) a10 a11 a12 a13 a14 a15 a16 a10 a11 a12 a13 a14 a15 a16 a17 a18 l b d n)
  C l b n := by
    rw [← rows_reverse a0 b]
    exact (congrFun (v132_eq a0 a1 a2 a3 a4 a5 a6 a7 a10 a11 a12 a13 a14 a15 a16) _).trans (v64_at (Host.reverse [1] a0) a10 a11 a12 a13 a14 a15 a16 a10 a11 a12 a13 a14 a15 a16 a17 a18 l b n)
  u l b d := by
    rw [← rows_reverse a0 b]
    exact (congrFun (v133_eq a0 a1 a2 a3 a4 a5 a6 a7 a10 a11 a12 a13 a14 a15 a16) _).trans (v65_at (Host.reverse [1] a0) a10 a11 a12 a13 a14 a15 a16 a10 a11 a12 a13 a14 a15 a16 a17 a18 l b d)
  z l b d := by
    rw [← rows_reverse a0 b]
    exact (congrFun (v134_eq a0 a1 a2 a3 a4 a5 a6 a7 a10 a11 a12 a13 a14 a15 a16) _).trans (v66_at (Host.reverse [1] a0) a10 a11 a12 a13 a14 a15 a16 a10 a11 a12 a13 a14 a15 a16 a17 a18 l b d)
  D d := rfl

/-- A field no trip changes is what the loop starts with. -/
theorem unchanged_field {α : Type} (it : ℕ → State Ideal) (hs : ∀ n, it (n + 1) = step n (it n)) (f : State Ideal → α)
    (hf : ∀ n s, f (step n s) = f s) : ∀ n, f (it n) = f (it 0)
  | 0 => rfl
  | n + 1 => by rw [hs, hf, unchanged_field it hs f hf n]

theorem trips_fwd (it : ℕ → State Ideal) (hs : ∀ n, it (n + 1) = step n (it n)) : Trips it where
  h n := by rw [hs]; rfl
  ys n := by rw [hs]; rfl
  a := unchanged_field it hs State.main_v138_0 fun _ _ => rfl
  g := unchanged_field it hs State.main_v138_1 fun _ _ => rfl
  C := unchanged_field it hs State.main_v138_2 fun _ _ => rfl
  u := unchanged_field it hs State.main_v138_3 fun _ _ => rfl
  z := unchanged_field it hs State.main_v138_4 fun _ _ => rfl
  D := unchanged_field it hs State.main_v138_10 fun _ _ => rfl

theorem trips_bwd (it : ℕ → State Ideal) (hs : ∀ n, it (n + 1) = step n (it n)) : Trips (fun n => swap (it n)) where
  h n := by show (it (n + 1)).main_v138_14 = _; rw [hs]; exact b62_eq n (it n)
  ys n := by show (it (n + 1)).main_v138_16 = _; rw [hs]; exact b85_eq n (it n)
  a := unchanged_field it hs State.main_v138_5 fun _ _ => rfl
  g := unchanged_field it hs State.main_v138_6 fun _ _ => rfl
  C := unchanged_field it hs State.main_v138_7 fun _ _ => rfl
  u := unchanged_field it hs State.main_v138_8 fun _ _ => rfl
  z := unchanged_field it hs State.main_v138_9 fun _ _ => rfl
  D := unchanged_field it hs State.main_v138_11 fun _ _ => rfl

/-- Rows of gated read-outs against the last weights are the layer's values. -/
theorem sum_layer {W : Weights} {X : ℕ → Fin 768 → EReal} {l : ℕ} {o : Fin 768} {y w : Fin 1536 → EReal}
    (hy : ∀ d, y d = readout W (pad W X) (state W (pad W X) (l + 1)) l d * (gate W (X l) d * Ideal.logistic (gate W (X l) d)))
    (hw : ∀ d, w d = W.ow d o) : ∑ d, y d * w d = layer W X l o := by
  simp only [hy, hw]
  rfl

/-- The result. -/
theorem result_at (it : ℕ → State Ideal) (h0 : it 0 = init (F := Ideal) a8 a17 a0 a1 a2 a3 a4 a5 a6 a7 a10 a11 a12 a13 a14 a15 a16) (hs : ∀ n, it (n + 1) = step n (it n))
    (b : Fin 2) (l : Fin 1024) (o : Fin 768) :
    R_main_v144 (it 1024) a9 a18 (ix3 b l o)
      = layer (wts a1 a2 a3 a4 a5 a6 a7 a8 a9) (rows a0 b) l.val o
        + layer (wts a10 a11 a12 a13 a14 a15 a16 a17 a18) (rowsRev a0 b) (1023 - l.val) o := by
  have hf := rows_written (trips_fwd it hs)
    (by rw [h0]; exact starts_fwd a0 a1 a2 a3 a4 a5 a6 a7 a8 a9 a10 a11 a12 a13 a14 a15 a16 a17) 1024 le_rfl
  have hb := rows_written (trips_bwd it hs)
    (W := wts a10 a11 a12 a13 a14 a15 a16 a17 a18) (X := fun b => rowsRev a0 b)
    (by show Starts (swap (it 0)) _ _; rw [h0]; exact starts_bwd a0 a1 a2 a3 a4 a5 a6 a7 a8 a10 a11 a12 a13 a14 a15 a16 a17 a18) 1024 le_rfl
  pointwise [R_main_v144]
  have hr : l.rev = ⟨1023 - l.val, by omega⟩ := Fin.ext (by
    show 1024 - (l.val + 1) = 1023 - l.val
    omega)
  simp only [List.mem_singleton, zero_ne_one, Fin.reduceEq, ↓reduceIte, hr]
  exact congrArg₂ (· + ·) (sum_layer (hf l l.isLt b) fun _ => rfl) (sum_layer (hb ⟨1023 - l.val, by omega⟩ (Fin.isLt _) b) fun _ => rfl)

end Cert.ReferenceIdeal.Value

end
-- ==== Proof.Agree.lean ====
module

public import proofs.«01_k».proof.Defs
public import proofs.«01_k».proof.Proof.KernelValue
public import proofs.«01_k».proof.Proof.ReferenceRun
public import proofs.«01_k».proof.Proof.ReferenceValue
public import Idealize.ShloMosaic.Lib.Claim

@[expose] public section

set_option maxRecDepth 16384

/-!
# The kernel computes what the reference computes

Over the reals with infinities, both programs' results are, at batch `b`, token `l` and channel `o`, the forward layer's
output at token `l` plus the backward layer's output over the reversed tokens at `1023 - l`.
-/

noncomputable section

namespace Cert.Agree

open Idealize.ShloMosaic Idealize.ShloMosaic.TcCoe Idealize.SL.Sem

/-- The reference's states, one per loop trip. -/
def states (m' : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.TripRun.initState m' c
  | n + 1 => Cert.ReferenceIdeal.Step.step n (states m' c n)

/-- What the kernel leaves in its result. -/
abbrev kernelResult (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v55) :=
  Pipeline.afterTail₀ Cert.KernelIdeal.cfgs (Cert.KernelIdeal.Body.dats m) 0 (Cert.KernelIdeal.Gen.V0 m)
    [Cert.KernelIdeal.Gen.hostOps1, Cert.KernelIdeal.Gen.hostOps1_1, Cert.KernelIdeal.Gen.hostOps1_2] c
    Cert.KernelIdeal.main_v55

/-- What the reference leaves in its result. -/
abbrev referenceResult (m' : (ℓ : Loc Cert.ReferenceIdeal.nD Cert.ReferenceIdeal.τ Cert.ReferenceIdeal.sig) → Buf (Elt Ideal) ℓ)
    (c : Dev Cert.ReferenceIdeal.nD) :
    Buf (Elt Ideal) ((c.tc : Thread Cert.ReferenceIdeal.nD Cert.ReferenceIdeal.τ).loc Cert.ReferenceIdeal.main_v144) :=
  Cert.ReferenceIdeal.Step.R_main_v144 (states m' c 1024)
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg18))

/-- From memories that agree on the arguments, the two results are the same. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    (referenceResult m' c : (⟨3, ![2, 1024, 768]⟩ : Shape).Idx → EReal) = kernelResult m c := by
  obtain ⟨h0, h1, h2, h3, h4, h5, h6, h7, h8, h9, h10, h11, h12, h13, h14, h15, h16, h17, h18⟩ := h
  funext i
  have hi : i = ix3 (i 0) (i 1) (i 2) := by
    funext a
    match a with
    | ⟨0, _⟩ => rfl
    | ⟨1, _⟩ => rfl
    | ⟨2, _⟩ => rfl
  rw [hi]
  refine (Cert.ReferenceIdeal.Value.result_at
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (states m' c) rfl (fun _ => rfl) (i 0) (i 1) (i 2)).trans ?_
  rw [h0, h1, h2, h3, h4, h5, h6, h7, h8, h9, h10, h11, h12, h13, h14, h15, h16, h17, h18]
  exact (Cert.KernelIdeal.Value.result_at m c (i 0) (i 1) (i 2)).symm

/-- The claim: from memories that agree on the arguments both programs run to the same result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨kernelResult m, ?_, ?_⟩
  · exact (θ_run _ _ _).mono (fun r h c => ⟨h.1 c, h.2 c⟩)
      (θ_run_and (Cert.KernelIdeal.Value.run m g) (Cert.KernelIdeal.Body.unchanged m g))
  · exact (θ_run _ _ _).mono (fun r h c => ⟨(h c).1.trans (results_eq m m' c (hagree c)), (h c).2⟩)
      (Cert.ReferenceIdeal.TripRun.run_iter m' g' (states m') (fun _ => rfl) (fun _ _ => rfl))

end Cert.Agree

end
-- ==== Proof.lean ====
/- The certificate's claims, proved: what each program does to the memory comes from the modules under Proof/. -/
module

public import proofs.«01_k».proof.Defs
public import proofs.«01_k».proof.Proof.KernelFrame
public import proofs.«01_k».proof.Proof.KernelIdealFrame
public import proofs.«01_k».proof.Proof.ReferenceRun
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Body.frame m ρ,
  fun m ρ _ => Cert.KernelIdeal.Body.frame m ρ,
  fun m ρ _ => Cert.ReferenceIdeal.TripRun.frame m ρ,
  trivial,
  Cert.Agree.algebraic⟩

end Cert.Proof

end
